-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_linspace_grid [hPre_linspace_grid : Cert.Pre_linspace_grid.Facts] (m : (ℓ : Loc Cert.KernelIdeal.nD Cert.KernelIdeal.τ Cert.KernelIdeal.sig) → Buf (Elt Ideal) ℓ) : Prop :=
  ∀ c : Dev Cert.KernelIdeal.nD,
    (Cert.Pre_linspace_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_linspace_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_linspace_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_linspace_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_linspace_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_linspace_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_linspace_grid [hPre_linspace_grid : Cert.Pre_linspace_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_linspace_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_linspace_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_linspace_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_linspace_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_linspace_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.1 = (fun _ => 1#1)
    ∧ (Cert.Pre_linspace_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_linspace_grid [hKernelIdeal : Cert.KernelIdeal.Facts] [hPre_linspace_grid : Cert.Pre_linspace_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_linspace_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_linspace_grid [hReferenceIdeal : Cert.ReferenceIdeal.Facts] [hPre_linspace_grid : Cert.Pre_linspace_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_linspace_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_linspace_grid [hKernelIdeal : Cert.KernelIdeal.Facts] [hReferenceIdeal : Cert.ReferenceIdeal.Facts] [hPre_linspace_grid : Cert.Pre_linspace_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_linspace_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_linspace_grid : Cert.Pre_linspace_grid.Facts),
    quiescent_Kernel (hKernel := hKernel)
    ∧ quiescent_KernelIdeal (hKernelIdeal := hKernelIdeal)
    ∧ quiescent_KernelIdeal_pre_linspace_grid (hKernelIdeal := hKernelIdeal) (hPre_linspace_grid := hPre_linspace_grid)
    ∧ quiescent_ReferenceIdeal (hReferenceIdeal := hReferenceIdeal)
    ∧ quiescent_ReferenceIdeal_pre_linspace_grid (hReferenceIdeal := hReferenceIdeal) (hPre_linspace_grid := hPre_linspace_grid)
    ∧ preserves_Kernel_KernelIdeal
    ∧ algebraic_KernelIdeal_ReferenceIdeal_pre_linspace_grid (hKernelIdeal := hKernelIdeal) (hReferenceIdeal := hReferenceIdeal) (hPre_linspace_grid := hPre_linspace_grid)
-- ==== Pre_linspace_grid.lean ====
abbrev S16384x128 : Shape := ⟨2, ![16384, 128]⟩
abbrev S32 : Shape := ⟨1, ![32]⟩
abbrev S128 : Shape := ⟨1, ![128]⟩
abbrev S1 : Shape := ⟨1, ![1]⟩
abbrev S_ : Shape := ⟨0, ![]⟩
abbrev S64 : Shape := ⟨1, ![64]⟩

class Facts : Prop where
  slices_S32_S1_0 : S32.Slices ![0] S1
  shapeCasts_S1_S_ : S1.ShapeCasts S_
  slices_S32_S1_31 : S32.Slices ![31] S1
  bcast_S_S32 : S_.BroadcastsInDim S32 (![] : Fin 0 → Fin S32.rank)
  slices_S128_S64_0 : S128.Slices ![0] S64
  bcast_S_S64 : S_.BroadcastsInDim S64 (![] : Fin 0 → Fin S64.rank)
  slices_S128_S64_64 : S128.Slices ![64] S64

variable [Facts]

def fn_part1 {F : FTy → Type} [FloatOps F] (main_arg2 : FVec F S128 .f32) (main_arg3 : FVec F S128 .f32) (main_v1 : FVec F S_ .f32) (main_v3 : FVec F S_ .f32) (main_v8 : IVec S32 1) (main_v9 : IVec S_ 1) (main_v16 : IVec S32 1) (main_v19 : IVec S64 1) (main_v20 : FVec F S64 .f32) : IVec S32 1 × IVec S_ 1 × IVec S32 1 × IVec S64 1 × IVec S64 1 × IVec S64 1 :=
  let main_v21 : FVec F S64 .f32 := (extractStridedSlice S64 ![0] · slices_S128_S64_0) main_arg3
  let main_v22 : IVec S64 1 := cmpf .olt main_v20 main_v21
  let main_v23 : IVec S64 1 := andi main_v19 main_v22
  let main_v24 : FVec F S64 .f32 := (extractStridedSlice S64 ![0] · slices_S128_S64_0) main_arg3
  let main_cst_2 : FVec F S_ .f32 := constant S_ .f32 0x3F800000#32
  let main_v25 : FVec F S64 .f32 := broadcastInDim S64 ![] bcast_S_S64 main_cst_2
  let main_v26 : IVec S64 1 := cmpf .ole main_v24 main_v25
  let main_v27 : IVec S64 1 := andi main_v23 main_v26
  let main_v28 : FVec F S64 .f32 := (extractStridedSlice S64 ![64] · slices_S128_S64_64) main_arg2
  let main_v29 : FVec F S64 .f32 := broadcastInDim S64 ![] bcast_S_S64 main_v1
  let main_v30 : IVec S64 1 := cmpf .oge main_v28 main_v29
  let main_v31 : FVec F S64 .f32 := (extractStridedSlice S64 ![64] · slices_S128_S64_64) main_arg2
  let main_v32 : FVec F S64 .f32 := broadcastInDim S64 ![] bcast_S_S64 main_v3
  let main_v33 : IVec S64 1 := cmpf .ole main_v31 main_v32
  let main_v34 : IVec S64 1 := andi main_v30 main_v33
  let main_v35 : FVec F S64 .f32 := (extractStridedSlice S64 ![64] · slices_S128_S64_64) main_arg3
  let main_v36 : FVec F S64 .f32 := broadcastInDim S64 ![] bcast_S_S64 main_v1
  let main_v37 : IVec S64 1 := cmpf .oge main_v35 main_v36
  let main_v38 : FVec F S64 .f32 := (extractStridedSlice S64 ![64] · slices_S128_S64_64) main_arg3
  let main_v39 : FVec F S64 .f32 := broadcastInDim S64 ![] bcast_S_S64 main_v3
  let main_v40 : IVec S64 1 := cmpf .ole main_v38 main_v39
  let main_v41 : IVec S64 1 := andi main_v37 main_v40
  (main_v8, main_v9, main_v16, main_v27, main_v34, main_v41)

def fn {F : FTy → Type} [FloatOps F] (main_arg0 : FVec F S16384x128 .f32) (main_arg1 : FVec F S32 .f32) (main_arg2 : FVec F S128 .f32) (main_arg3 : FVec F S128 .f32) : IVec S32 1 × IVec S_ 1 × IVec S32 1 × IVec S64 1 × IVec S64 1 × IVec S64 1 :=
  let main_v0 : FVec F S1 .f32 := (extractStridedSlice S1 ![0] · slices_S32_S1_0) main_arg1
  let main_v1 : FVec F S_ .f32 := shapeCast S_ main_v0 shapeCasts_S1_S_
  let main_v2 : FVec F S1 .f32 := (extractStridedSlice S1 ![31] · slices_S32_S1_31) main_arg1
  let main_v3 : FVec F S_ .f32 := shapeCast S_ main_v2 shapeCasts_S1_S_
  let main_v4 : IVec S32 32 := iotaInDim S32 32 0
  let main_v5 : FVec F S32 .f32 := sitofp .f32 main_v4
  let main_v6 : FVec F S32 .f32 := Host.absf main_arg1
  let main_cst : FVec F S_ .f32 := constant S_ .f32 0x7F800000#32
  let main_v7 : FVec F S32 .f32 := broadcastInDim S32 ![] bcast_S_S32 main_cst
  let main_v8 : IVec S32 1 := cmpf .olt main_v6 main_v7
  let main_v9 : IVec S_ 1 := cmpf .olt main_v1 main_v3
  let main_v10 : FVec F S_ .f32 := subf main_v3 main_v1
  let main_cst_0 : FVec F S_ .f32 := constant S_ .f32 0x41F80000#32
  let main_v11 : FVec F S_ .f32 := Host.divf main_v10 main_cst_0
  let main_v12 : FVec F S32 .f32 := broadcastInDim S32 ![] bcast_S_S32 main_v11
  let main_v13 : FVec F S32 .f32 := mulf main_v5 main_v12
  let main_v14 : FVec F S32 .f32 := broadcastInDim S32 ![] bcast_S_S32 main_v1
  let main_v15 : FVec F S32 .f32 := addf main_v14 main_v13
  let main_v16 : IVec S32 1 := cmpf .oeq main_arg1 main_v15
  let main_v17 : FVec F S64 .f32 := (extractStridedSlice S64 ![0] · slices_S128_S64_0) main_arg2
  let main_cst_1 : FVec F S_ .f32 := constant S_ .f32 0x00000000#32
  let main_v18 : FVec F S64 .f32 := broadcastInDim S64 ![] bcast_S_S64 main_cst_1
  let main_v19 : IVec S64 1 := cmpf .oge main_v17 main_v18
  let main_v20 : FVec F S64 .f32 := (extractStridedSlice S64 ![0] · slices_S128_S64_0) main_arg2
  fn_part1 (F := F) main_arg2 main_arg3 main_v1 main_v3 main_v8 main_v9 main_v16 main_v19 main_v20
-- ==== Kernel.lean ====
abbrev S16384x128 : Shape := ⟨2, ![16384, 128]⟩
abbrev S32 : Shape := ⟨1, ![32]⟩
abbrev S128 : Shape := ⟨1, ![128]⟩
abbrev S1x32 : Shape := ⟨2, ![1, 32]⟩
abbrev S1x128 : Shape := ⟨2, ![1, 128]⟩
abbrev S16384x2048 : Shape := ⟨2, ![16384, 2048]⟩
abbrev S1024x128 : Shape := ⟨2, ![1024, 128]⟩
abbrev S1024x2048 : Shape := ⟨2, ![1024, 2048]⟩
abbrev S1024x64 : Shape := ⟨2, ![1024, 64]⟩
abbrev S64x1 : Shape := ⟨2, ![64, 1]⟩
abbrev S1024x1 : Shape := ⟨2, ![1024, 1]⟩
abbrev S1x1 : Shape := ⟨2, ![1, 1]⟩

abbrev nBuf : Space → Nat
  | .hbm => 8
  | .vmem => 7
  | .smem => 0
  | _ => 0

abbrev bufTy : (tb : Table) → Fin (tcTables nBuf tb) → BufTy
  | .hbm, ⟨0, _⟩ => ⟨S16384x128, .f32⟩
  | .hbm, ⟨1, _⟩ => ⟨S32, .f32⟩
  | .hbm, ⟨2, _⟩ => ⟨S128, .f32⟩
  | .hbm, ⟨3, _⟩ => ⟨S128, .f32⟩
  | .hbm, ⟨4, _⟩ => ⟨S1x32, .f32⟩
  | .hbm, ⟨5, _⟩ => ⟨S1x128, .f32⟩
  | .hbm, ⟨6, _⟩ => ⟨S1x128, .f32⟩
  | .hbm, ⟨7, _⟩ => ⟨S16384x2048, .f32⟩
  | .local _ .vmem, ⟨0, _⟩ => ⟨S1024x128, .f32⟩
  | .local _ .vmem, ⟨1, _⟩ => ⟨S1024x128, .f32⟩
  | .local _ .vmem, ⟨2, _⟩ => ⟨S1x32, .f32⟩
  | .local _ .vmem, ⟨3, _⟩ => ⟨S1x128, .f32⟩
  | .local _ .vmem, ⟨4, _⟩ => ⟨S1x128, .f32⟩
  | .local _ .vmem, ⟨5, _⟩ => ⟨S1024x2048, .f32⟩
  | .local _ .vmem, ⟨6, _⟩ => ⟨S1024x2048, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x128 : Shape := ⟨2, ![16384, 128]⟩
abbrev S32 : Shape := ⟨1, ![32]⟩
abbrev S128 : Shape := ⟨1, ![128]⟩
abbrev S_ : Shape := ⟨0, ![]⟩
abbrev S1x128 : Shape := ⟨2, ![1, 128]⟩
abbrev S16384x64 : Shape := ⟨2, ![16384, 64]⟩
abbrev S16384 : Shape := ⟨1, ![16384]⟩
abbrev S16384x1 : Shape := ⟨2, ![16384, 1]⟩
abbrev S1048576 : Shape := ⟨1, ![1048576]⟩
abbrev S1x32 : Shape := ⟨2, ![1, 32]⟩
abbrev S1048576x1 : Shape := ⟨2, ![1048576, 1]⟩
abbrev S1048576x32 : Shape := ⟨2, ![1048576, 32]⟩
abbrev S16384x64x32 : Shape := ⟨3, ![16384, 64, 32]⟩
abbrev S16384x1x64 : Shape := ⟨3, ![16384, 1, 64]⟩
abbrev S16384x32x64 : Shape := ⟨3, ![16384, 32, 64]⟩
abbrev S16384x2048 : Shape := ⟨2, ![16384, 2048]⟩

abbrev nBuf : Space → Nat
  | .hbm => 122
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S32, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S1x128, .f32⟩
  | .hbm, ⟨13, _⟩ => ⟨S16384x128, .f32⟩
  | .hbm, ⟨14, _⟩ => ⟨S16384x128, .f32⟩
  | .hbm, ⟨15, _⟩ => ⟨S1x128, .f32⟩
  | .hbm, ⟨16, _⟩ => ⟨S16384x128, .f32⟩
  | .hbm, ⟨17, _⟩ => ⟨S16384x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16384x128, .f32⟩
  | .hbm, ⟨22, _⟩ => ⟨S16384x128, .f32⟩
  | .hbm, ⟨23, _⟩ => ⟨S_, .f32⟩
  | .hbm, ⟨24, _⟩ => ⟨S16384x128, .f32⟩
  | .hbm, ⟨25, _⟩ => ⟨S16384x128, .f32⟩
  | .hbm, ⟨26, _⟩ => ⟨S1x128, .f32⟩
  | .hbm, ⟨27, _⟩ => ⟨S16384x128, .f32⟩
  | .hbm, ⟨28, _⟩ => ⟨S16384x128, .f32⟩
  | .hbm, ⟨29, _⟩ => ⟨S1x128, .f32⟩
  | .hbm, ⟨30, _⟩ => ⟨S16384x128, .f32⟩
  | .hbm, ⟨31, _⟩ => ⟨S16384x128, .f32⟩
  | .hbm, ⟨32, _⟩ => ⟨S16384x64, .f32⟩
  | .hbm, ⟨33, _⟩ => ⟨S16384x64, .f32⟩
  | .hbm, ⟨34, _⟩ => ⟨S_, .f32⟩
  | .hbm, ⟨35, _⟩ => ⟨S16384x64, .f32⟩
  | .hbm, ⟨36, _⟩ => ⟨S16384x64, .f32⟩
  | .hbm, ⟨37, _⟩ => ⟨S16384x64, .f32⟩
  | .hbm, ⟨38, _⟩ => ⟨S16384x64, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x64, .f32⟩
  | .hbm, ⟨43, _⟩ => ⟨S16384x64, .f32⟩
  | .hbm, ⟨44, _⟩ => ⟨S1048576, .f32⟩
  | .hbm, ⟨45, _⟩ => ⟨S1x32, .f32⟩
  | .hbm, ⟨46, _⟩ => ⟨S1048576x1, .f32⟩
  | .hbm, ⟨47, _⟩ => ⟨S1048576x32, .f32⟩
  | .hbm, ⟨48, _⟩ => ⟨S1048576x32, .f32⟩
  | .hbm, ⟨49, _⟩ => ⟨S1048576x32, .i1⟩
  | .hbm, ⟨50, _⟩ => ⟨S1048576x32, .i32⟩
  | .hbm, ⟨51, _⟩ => ⟨S_, .i32⟩
  | .hbm, ⟨52, _⟩ => ⟨S1048576, .i32⟩
  | .hbm, ⟨53, _⟩ => ⟨S_, .i32⟩
  | .hbm, ⟨54, _⟩ => ⟨S1048576, .i32⟩
  | .hbm, ⟨55, _⟩ => ⟨S1048576, .i1⟩
  | .hbm, ⟨56, _⟩ => ⟨S_, .i32⟩
  | .hbm, ⟨57, _⟩ => ⟨S_, .i32⟩
  | .hbm, ⟨58, _⟩ => ⟨S1048576, .i32⟩
  | .hbm, ⟨59, _⟩ => ⟨S1048576, .i32⟩
  | .hbm, ⟨60, _⟩ => ⟨S_, .i32⟩
  | .hbm, ⟨61, _⟩ => ⟨S1048576, .i32⟩
  | .hbm, ⟨62, _⟩ => ⟨S1048576, .i1⟩
  | .hbm, ⟨63, _⟩ => ⟨S_, .i32⟩
  | .hbm, ⟨64, _⟩ => ⟨S_, .i32⟩
  | .hbm, ⟨65, _⟩ => ⟨S1048576, .i32⟩
  | .hbm, ⟨66, _⟩ => ⟨S1048576, .i32⟩
  | .hbm, ⟨67, _⟩ => ⟨S_, .i32⟩
  | .hbm, ⟨68, _⟩ => ⟨S1048576, .i32⟩
  | .hbm, ⟨69, _⟩ => ⟨S1048576, .i32⟩
  | .hbm, ⟨70, _⟩ => ⟨S_, .i32⟩
  | .hbm, ⟨71, _⟩ => ⟨S1048576, .i32⟩
  | .hbm, ⟨72, _⟩ => ⟨S1048576, .i1⟩
  | .hbm, ⟨73, _⟩ => ⟨S_, .i32⟩
  | .hbm, ⟨74, _⟩ => ⟨S1048576, .i32⟩
  | .hbm, ⟨75, _⟩ => ⟨S1048576, .i32⟩
  | .hbm, ⟨76, _⟩ => ⟨S1048576, .i32⟩
  | .hbm, ⟨77, _⟩ => ⟨S1048576x1, .i32⟩
  | .hbm, ⟨78, _⟩ => ⟨S1048576, .f32⟩
  | .hbm, ⟨79, _⟩ => ⟨S_, .i32⟩
  | .hbm, ⟨80, _⟩ => ⟨S1048576, .i32⟩
  | .hbm, ⟨81, _⟩ => ⟨S1048576, .i1⟩
  | .hbm, ⟨82, _⟩ => ⟨S_, .i32⟩
  | .hbm, ⟨83, _⟩ => ⟨S1048576, .i32⟩
  | .hbm, ⟨84, _⟩ => ⟨S1048576, .i32⟩
  | .hbm, ⟨85, _⟩ => ⟨S1048576, .i32⟩
  | .hbm, ⟨86, _⟩ => ⟨S1048576x1, .i32⟩
  | .hbm, ⟨87, _⟩ => ⟨S1048576, .f32⟩
  | .hbm, ⟨88, _⟩ => ⟨S1048576, .f32⟩
  | .hbm, ⟨89, _⟩ => ⟨S1048576, .f32⟩
  | .hbm, ⟨90, _⟩ => ⟨S1048576, .f32⟩
  | .hbm, ⟨91, _⟩ => ⟨S_, .f32⟩
  | .hbm, ⟨92, _⟩ => ⟨S1048576, .f32⟩
  | .hbm, ⟨93, _⟩ => ⟨S1048576, .f32⟩
  | .hbm, ⟨94, _⟩ => ⟨S_, .i32⟩
  | .hbm, ⟨95, _⟩ => ⟨S1048576, .i32⟩
  | .hbm, ⟨96, _⟩ => ⟨S1048576, .i32⟩
  | .hbm, ⟨97, _⟩ => ⟨S1048576x1, .i32⟩
  | .hbm, ⟨98, _⟩ => ⟨S1x32, .i32⟩
  | .hbm, ⟨99, _⟩ => ⟨S1048576x32, .i32⟩
  | .hbm, ⟨100, _⟩ => ⟨S1048576x32, .i32⟩
  | .hbm, ⟨101, _⟩ => ⟨S1048576x32, .i1⟩
  | .hbm, ⟨102, _⟩ => ⟨S1048576x32, .f32⟩
  | .hbm, ⟨103, _⟩ => ⟨S1048576x1, .i32⟩
  | .hbm, ⟨104, _⟩ => ⟨S1x32, .i32⟩
  | .hbm, ⟨105, _⟩ => ⟨S1048576x32, .i32⟩
  | .hbm, ⟨106, _⟩ => ⟨S1048576x32, .i32⟩
  | .hbm, ⟨107, _⟩ => ⟨S1048576x32, .i1⟩
  | .hbm, ⟨108, _⟩ => ⟨S1048576x32, .f32⟩
  | .hbm, ⟨109, _⟩ => ⟨S1048576x1, .f32⟩
  | .hbm, ⟨110, _⟩ => ⟨S1048576x32, .f32⟩
  | .hbm, ⟨111, _⟩ => ⟨S1048576x32, .f32⟩
  | .hbm, ⟨112, _⟩ => ⟨S1048576x1, .f32⟩
  | .hbm, ⟨113, _⟩ => ⟨S1048576x32, .f32⟩
  | .hbm, ⟨114, _⟩ => ⟨S1048576x32, .f32⟩
  | .hbm, ⟨115, _⟩ => ⟨S1048576x32, .f32⟩
  | .hbm, ⟨116, _⟩ => ⟨S16384x64x32, .f32⟩
  | .hbm, ⟨117, _⟩ => ⟨S16384x1x64, .f32⟩
  | .hbm, ⟨118, _⟩ => ⟨S16384x32x64, .f32⟩
  | .hbm, ⟨119, _⟩ => ⟨S16384x32x64, .f32⟩
  | .hbm, ⟨120, _⟩ => ⟨S16384x32x64, .f32⟩
  | .hbm, ⟨121, _⟩ => ⟨S16384x2048, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c : Ref sig .tc := ⟨.hbm, 51, rfl⟩
abbrev main_v36 : Ref sig .tc := ⟨.hbm, 52, rfl⟩
abbrev main_c_5 : Ref sig .tc := ⟨.hbm, 53, rfl⟩
abbrev main_v37 : Ref sig .tc := ⟨.hbm, 54, rfl⟩
abbrev main_v38 : Ref sig .tc := ⟨.hbm, 55, rfl⟩
abbrev main_c_6 : Ref sig .tc := ⟨.hbm, 56, rfl⟩
abbrev main_call1_v0 : Ref sig .tc := ⟨.hbm, 57, rfl⟩
abbrev main_call1_v1 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_call2_v0 : Ref sig .tc := ⟨.hbm, 64, rfl⟩
abbrev main_call2_v1 : Ref sig .tc := ⟨.hbm, 65, rfl⟩
abbrev main_v42 : Ref sig .tc := ⟨.hbm, 66, rfl⟩
abbrev main_c_9 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_12 : Ref sig .tc := ⟨.hbm, 79, rfl⟩
abbrev main_v52 : Ref sig .tc := ⟨.hbm, 80, rfl⟩
abbrev main_v53 : Ref sig .tc := ⟨.hbm, 81, rfl⟩
abbrev main_c_13 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_14 : Ref sig .tc := ⟨.hbm, 91, rfl⟩
abbrev main_v62 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_v66 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩

abbrev nD : Nat := 1
abbrev τ : Topo := Topo.v7x

variable {F : FTy → Type} [FloatOps F]
-- ==== Proof.Forms.lean ====
/- The scalar formulas the two programs compute: the kernel's and the reference's, over the extended reals. -/
module

public import Idealize.ShloMosaic.Lib.IdealHost

@[expose] public section

noncomputable section

open scoped BigOperators

namespace Cert.Proof.Forms

open Idealize.ShloMosaic

/-- The midpoint of the two bounds of one parameter. -/
def centre (l u : EReal) : EReal := Ideal.ofBits .f32 0x3F000000#32 * (u + l)

/-- Half the distance between the two bounds of one parameter. -/
def radius (l u : EReal) : EReal := Ideal.ofBits .f32 0x3F000000#32 * (u - l)

/-- The kernel's clipped parameter: it multiplies by the reciprocal of the radius. -/
def kClip (p l u : EReal) : EReal :=
  radius l u * min (max ((p - centre l u) * Ideal.div (Ideal.ofBits .f32 0x3F800000#32) (radius l u))
    (Ideal.ofBits .f32 0xBF7FFFEF#32)) (Ideal.ofBits .f32 0x3F7FFFEF#32) + centre l u

/-- The reference's clipped parameter: it divides by the radius. -/
def rClip (p l u : EReal) : EReal :=
  radius l u * min (Ideal.ofBits .f32 0x3F7FFFEF#32) (max (Ideal.ofBits .f32 0xBF7FFFEF#32)
    (Ideal.div (p - centre l u) (radius l u))) + centre l u

/-- The kernel's exponential variable of one clipped parameter. -/
def kExp (v : EReal) : EReal :=
  Ideal.ofBits .f32 0x00000000#32 - Ideal.log (Ideal.ofBits .f32 0x3F800000#32 - v)

/-- The reference's exponential variable of one clipped parameter. -/
def rExp (v : EReal) : EReal := -(Ideal.log (Ideal.ofBits .f32 0x3F800000#32 - v))

/-- The kernel's share of one of 64 variables: times the reciprocal of their sum against ones. -/
def kShare (X : Fin 64 → EReal) (n : Fin 64) : EReal :=
  X n * Ideal.div (Ideal.ofBits .f32 0x3F800000#32)
    (Ideal.ofBits .f32 0x00000000#32 + ∑ k : Fin 64, X k * Ideal.ofBits .f32 0x3F800000#32)

/-- The reference's share of one of 64 variables: divided by their sum. -/
def rShare (X : Fin 64 → EReal) (n : Fin 64) : EReal :=
  Ideal.div (X n) (Ideal.ofBits .f32 0x00000000#32 + ∑ k : Fin 64, X k)

/-- The kernel's reciprocal of the grid's step, from the grid's two ends. -/
def kInv (g0 g31 : EReal) : EReal := Ideal.div (Ideal.ofBits .f32 0x41F80000#32) (g31 - g0)

/-- One element of a kernel slab: share `s`, scaled coordinate `q`, lane half `h`, slab literal `w`, scaled
    grid start `o`. -/
def kTent (s q h w o : EReal) : EReal :=
  max (s - s * max (q - (h + (w + o))) (-(q - (h + (w + o))))) (Ideal.ofBits .f32 0x00000000#32)

/-- One element of the kernel's result: column `c` of the row whose parameters are `P`, for the grid's two ends and
the bounds `L`, `U`. -/
def kOut (P : Fin 128 → EReal) (g0 g31 : EReal) (L U : Fin 128 → EReal) (c : Fin 2048) : EReal :=
  kTent
    (kShare (fun k => kExp (kClip (P ⟨k.val, by omega⟩) (L ⟨k.val, by omega⟩) (U ⟨k.val, by omega⟩)))
      ⟨c.val % 64, Nat.mod_lt _ (by norm_num)⟩)
    (kClip (P ⟨64 + c.val % 64, by omega⟩) (L ⟨64 + c.val % 64, by omega⟩) (U ⟨64 + c.val % 64, by omega⟩) * kInv g0 g31)
    (((c.val % 128 / 64 : ℕ) : ℝ) : EReal) (((2 * (c.val / 128) : ℕ) : ℝ) : EReal) (g0 * kInv g0 g31)

/-- A small natural number as a 32-bit word, read signed, is itself. -/
theorem toInt_small (n : ℕ) (h : n < 2 ^ 31) : (BitVec.ofNat 32 n).toInt = (n : ℤ) := by
  rw [BitVec.toInt_eq_toNat_cond, BitVec.toNat_ofNat, Nat.mod_eq_of_lt (by omega)]
  rw [if_pos (by omega)]

end Cert.Proof.Forms

end
-- ==== Proof.KernelBlock.lean ====
/- What one block of the kernel computes, element by element. -/
module

public import proofs.«01_k».proof.Proof.Forms
public import proofs.«01_k».proof.Proof.Gen.KernelIdeal.Value
public import Idealize.ShloMosaic.Lib.ValueLayout
public import Idealize.ShloMosaic.Lib.ValueIdxCoords

@[expose] public section

noncomputable section

open scoped BigOperators

namespace Cert.Proof.KernelBlock

open Idealize.ShloMosaic Idealize.ShloMosaic.ValueIdx Cert.KernelIdeal Cert.KernelIdeal.Gen Cert.Proof.Forms

/-- The clipped parameters at an index. -/
theorem pay1_apply (v0 : Vec Ideal S1024x128 .f32) (v1 v3 : Vec Ideal S1x128 .f32) (r : Fin 1024) (k : Fin 128) :
    k0_pay1 v0 v1 v3 (ix2 r k) = kClip (v0 (ix2 r k)) (v1 (ix2 0 k)) (v3 (ix2 0 k)) := by
  unfold k0_pay1
  simp only [shapeCast_self, addf_apply, mulf_apply, subf_apply, divf_apply, maximumf_apply, minimumf_apply,
    broadcastTo_1b_ab_apply, broadcast_apply]
  rfl

/-- The metallicity columns of the clipped parameters at an index. -/
theorem pay2_apply (v0 : Vec Ideal S1024x128 .f32) (v1 v3 : Vec Ideal S1x128 .f32) (r : Fin 1024) (n : Fin 64) :
    k0_pay2 v0 v1 v3 (ix2 r n) = k0_pay1 v0 v1 v3 (ix2 r ⟨64 + n.val, by omega⟩) := by
  unfold k0_pay2
  exact slice2_axis1_eq 64 _ _ r n

/-- The block's row-sum contraction, its one contracted axis as the 64 columns. -/
abbrev lanes : dot_S1024x64_S64x1_S1024x1_1_0_0_1_n_n.contr.Idx ≃ Fin 64 :=
  contrEquiv1 dot_S1024x64_S64x1_S1024x1_1_0_0_1_n_n 64 rfl rfl

/-- A column of exponential variables at an index. -/
theorem exp_apply (v : FVec Ideal S1024x128 .f32) (r : Fin 1024) (k : Fin 64) :
    subf (broadcast S1024x64 (Scalar.ofBits .f32 0x00000000#32 : Ideal .f32))
      (log (subf (broadcast S1024x64 (Scalar.ofBits .f32 0x3F800000#32 : Ideal .f32))
        (extractStridedSlice S1024x64 ![0, 0] v slices_S1024x128_o0_0_S1024x64))) (ix2 r k)
      = kExp (v (ix2 r ⟨k.val, by omega⟩)) := by
  have hs : extractStridedSlice S1024x64 ![0, 0] v slices_S1024x128_o0_0_S1024x64 (ix2 r k)
      = v (ix2 r ⟨k.val, by omega⟩) := slice2_axis1_apply 0 _ _ r k _ (by simp)
  rw [← hs]
  rfl

/-- The shares at an index. -/
theorem pay3_apply (v0 : Vec Ideal S1024x128 .f32) (v1 v3 : Vec Ideal S1x128 .f32) (r : Fin 1024) (n : Fin 64) :
    k0_pay3 v0 v1 v3 (ix2 r n)
      = kShare (fun k => kExp (k0_pay1 v0 v1 v3 (ix2 r ⟨k.val, by omega⟩))) n := by
  unfold k0_pay3
  simp only [mulf_apply]
  rw [broadcastTo_apply (k := ix2 r (0 : Fin 1)) (hk := by
    intro a; match a with | ⟨0, _⟩ => rfl | ⟨1, _⟩ => rfl)]
  simp only [divf_apply, matmul]
  rw [exp_apply, Ideal.matmul_apply_of_eq _ _ _ _ _ _
    (fun k => kExp (k0_pay1 v0 v1 v3 (ix2 r ⟨(lanes k).val, by omega⟩)))
    (fun _ => Ideal.ofBits .f32 0x3F800000#32) (fun k => ?_) (fun k => rfl)]
  · unfold kShare
    rw [← Equiv.sum_comp lanes]
    rfl
  · have e : dot_S1024x64_S64x1_S1024x1_1_0_0_1_n_n.lhsIdx (ix2 r (0 : Fin 1)) k = ix2 r (lanes k) := by
      funext a; match a with | ⟨0, _⟩ => rfl | ⟨1, _⟩ => rfl
    rw [e, exp_apply]

/-- A 64-column array laid twice side by side reads, at lane `l`, its column `l % 64`. -/
theorem twice_apply (x : FVec Ideal S1024x64 .f32) (r : Fin 1024) (l : Fin 128) :
    concatenate S1024x128 1 [⟨S1024x64, x⟩, ⟨S1024x64, x⟩] concatenates_S1024x64_S1024x64_S1024x128_d1 (ix2 r l)
      = x (ix2 r ⟨l.val % 64, Nat.mod_lt _ (by norm_num)⟩) := by
  by_cases h : l.val < 64
  · refine concatenate_pair_apply_left (t := S1024x128) (s₁ := S1024x64) (s₂ := S1024x64) 1 x x _ (ix2 r l) rfl _ ?_
    intro b
    match b with
    | ⟨0, _⟩ => rfl
    | ⟨1, _⟩ => exact Nat.mod_eq_of_lt h
  · refine concatenate_pair_apply_right (t := S1024x128) (s₁ := S1024x64) (s₂ := S1024x64) 1 x x _ (ix2 r l) rfl rfl _ ?_ ?_
    · intro b hb
      match b, hb with
      | ⟨0, _⟩, _ => rfl
      | ⟨1, _⟩, hb => exact absurd rfl hb
    · show l.val % 64 + 64 = l.val
      omega

/-- The scaled metallicities, two copies side by side, at an index. -/
theorem pay6_apply (v26 : FVec Ideal S1024x64 .f32) (v39 : Ideal .f32) (v40 : Vec Ideal S1x1 .f32) (r : Fin 1024)
    (l : Fin 128) :
    k0_pay6 v26 v39 v40 (ix2 r l)
      = v26 (ix2 r ⟨l.val % 64, Nat.mod_lt _ (by norm_num)⟩) * k0_pay5 v39 v40 :=
  twice_apply _ r l

/-- The shares, two copies side by side, at an index. -/
theorem pay7_apply (v37 : FVec Ideal S1024x64 .f32) (r : Fin 1024) (l : Fin 128) :
    k0_pay7 v37 (ix2 r l) = v37 (ix2 r ⟨l.val % 64, Nat.mod_lt _ (by norm_num)⟩) :=
  twice_apply _ r l

/-- The lane's half, as a word: a floor division of the lane by 64 written with signed operations. -/
def halfWord (l : BitVec 32) : BitVec 32 :=
  Scalar.select
    (IntOp.andi (IntOp.cmpi .ne (IntOp.subi ((IntOp.cmpi .sgt l 0#32).setWidth 32) ((IntOp.cmpi .slt l 0#32).setWidth 32))
        (Scalar.subi (Scalar.extui (Scalar.cmpi .sgt 64#32 0#32)) (Scalar.extui (Scalar.cmpi .slt 64#32 0#32))))
      (IntOp.cmpi .ne (IntOp.remsi .vector l 64#32) 0#32))
    (IntOp.subi (IntOp.divsi .vector l 64#32) 1#32) (IntOp.divsi .vector l 64#32)

/-- On the lanes it is the quotient by 64. -/
theorem halfWord_eq : ∀ l : Fin 128, halfWord (BitVec.ofNat 32 l.val) = BitVec.ofNat 32 (l.val / 64) := by
  decide +kernel

/-- The lane's half at an index: 0 on the first 64 lanes, 1 on the rest. -/
theorem pay8_apply (u : Fin 1) (l : Fin 128) :
    k0_pay8 (F := Ideal) (ix2 u l) = (((l.val / 64 : ℕ) : ℝ) : EReal) := by
  have h : k0_pay8 (F := Ideal) (ix2 u l) = (((halfWord (iota .tc S1x128 32 [1] iota_S1x128_d1_w32 (ix2 u l))).toInt : ℝ) : EReal) := rfl
  rw [h, iota_single_apply, show ((ix2 u l : S1x128.Idx) 1) = l from rfl, halfWord_eq, toInt_small _ (by omega)]
  norm_cast

/-- One slab over whole vectors: the kernel's sixteen stored payloads are this at sixteen literals. -/
def slab (w : BitVec 32) (q s : FVec Ideal S1024x128 .f32) (h : FVec Ideal S1x128 .f32) (o : Ideal .f32) :
    FVec Ideal S1024x128 .f32 :=
  k0_pay24 q s (addf h (broadcast S1x128 (Scalar.addf (Scalar.ofBits .f32 w) o)))

/-- A slab at an index. -/
theorem slab_apply (w : BitVec 32) (q s : FVec Ideal S1024x128 .f32) (h : FVec Ideal S1x128 .f32) (o : Ideal .f32)
    (r : Fin 1024) (l : Fin 128) :
    slab w q s h o (ix2 r l)
      = kTent (s (ix2 r l)) (q (ix2 r l)) (h (ix2 0 l)) (Ideal.ofBits .f32 w) o := by
  unfold slab k0_pay24
  simp only [maximumf_apply, subf_apply, mulf_apply]
  simp only [absf, subf_apply, broadcastTo_1b_ab_apply]
  rfl

end Cert.Proof.KernelBlock

end
-- ==== Proof.KernelOut.lean ====
/- What one block of the kernel's result holds: the sixteen stored slabs as one function of the block index. -/
module

public import proofs.«01_k».proof.Proof.KernelBlock

@[expose] public section

noncomputable section

open scoped BigOperators

namespace Cert.Proof.KernelBlock

open Idealize.ShloMosaic Idealize.ShloMosaic.ValueIdx Cert.KernelIdeal Cert.KernelIdeal.Gen Cert.Proof.Forms

/-- The sixteen slab literals, 0, 2, …, 30, as f32 words. -/
def lit : Fin 16 → BitVec 32 :=
  ![0x00000000#32, 0x40000000#32, 0x40800000#32, 0x40C00000#32, 0x41000000#32, 0x41200000#32, 0x41400000#32,
    0x41600000#32, 0x41800000#32, 0x41900000#32, 0x41A00000#32, 0x41B00000#32, 0x41C00000#32, 0x41D00000#32,
    0x41E00000#32, 0x41F00000#32]

/-- Slab literal `j` is the real `2 * j`. -/
theorem lit_eq (j : Fin 16) : Ideal.ofBits .f32 (lit j) = (((2 * j.val : ℕ) : ℝ) : EReal) := by
  fin_cases j <;> simp [lit, Ideal.ofBits, Ideal.ieee, -EReal.coe_mul] <;> norm_num

section Block
variable (x0 : Vec Ideal S1024x128 .f32) (x1 : Vec Ideal S1x32 .f32) (x2 x3 : Vec Ideal S1x128 .f32)

/-- The block's result as one function of the block index. -/
def blockOut (y : S1024x2048.Idx) : EReal :=
  kOut (fun k => x0 (ix2 (y 0) k)) (x1 (ix2 0 0)) (x1 (ix2 0 31)) (fun k => x2 (ix2 0 k)) (fun k => x3 (ix2 0 k)) (y 1)

/-- The origin, written entry by entry. -/
theorem hz : (![0, 0] : Fin 2 → Nat) = fun _ => 0 := funext fun a => by fin_cases a <;> rfl

/-- The grid's first entry, as the body reads it. -/
theorem first_eq : k0_pay4 (View.ld x1 r0_2) = x1 (ix2 0 0) := by
  unfold k0_pay4 extractAt
  refine congrArg x1 (funext fun a => ?_)
  match a with
  | ⟨0, _⟩ => rfl
  | ⟨1, _⟩ => rfl

/-- The reciprocal of the grid's step, as the body computes it. -/
theorem inv_eq : k0_pay5 (k0_pay4 (View.ld x1 r0_2)) (View.ld x1 r0_3) = kInv (x1 (ix2 0 0)) (x1 (ix2 0 31)) := by
  rw [first_eq]
  have e : extractAt ![0, 0] (View.ld x1 r0_3) inpos_S1x1_p0_0 = x1 (ix2 0 31) := by
    unfold extractAt
    refine congrArg x1 (funext fun a => ?_)
    match a with
    | ⟨0, _⟩ => rfl
    | ⟨1, _⟩ => rfl
  unfold kInv
  rw [← e]
  rfl

/-- A slab of the block, read at its own index, is the block's result at the columns the slab is stored to. -/
theorem slab_piece (j : Fin 16) (off : Fin 2 → ℕ) (h0 : off 0 = 0) (h1 : off 1 = 128 * j.val)
    (inb : ∀ a, off a + S1024x128.size a ≤ S1024x2048.size a) (w : BitVec 32) (hw : w = lit j) (x : S1024x128.Idx) :
    slab w (k0_pay30 x0 x1 x2 x3) (k0_pay31 x0 x1 x2 x3) (k0_pay32 x0 x1 x2 x3)
        (k0_pay9 (k0_pay4 (View.ld x1 r0_2)) (View.ld x1 r0_3)) x
      = blockOut x0 x1 x2 x3 ((Rect.unit (s := S1024x2048) off S1024x128.size inb).emb x) := by
  subst hw
  obtain ⟨r, l, rfl⟩ : ∃ r l, x = ix2 r l := ⟨x 0, x 1, eq_ix2 x⟩
  have e : (Rect.unit (s := S1024x2048) off S1024x128.size inb).emb (ix2 r l)
      = ix2 r ⟨128 * j.val + l.val, by omega⟩ := by
    funext a
    match a with
    | ⟨0, _⟩ => exact Fin.ext (by show off 0 + 1 * r.val = r.val; rw [h0]; omega)
    | ⟨1, _⟩ => exact Fin.ext (by show off 1 + 1 * l.val = 128 * j.val + l.val; rw [h1]; omega)
  have hl : l.val < 128 := l.isLt
  have m1 : (128 * j.val + l.val) % 64 = l.val % 64 := by omega
  have m2 : (128 * j.val + l.val) % 128 / 64 = l.val / 64 := by omega
  have m3 : (128 * j.val + l.val) / 128 = j.val := by omega
  rw [e, slab_apply]
  unfold k0_pay30 k0_pay31 k0_pay32 k0_pay28 k0_pay29 k0_pay9
  rw [pay6_apply, pay7_apply, pay8_apply, pay2_apply, pay3_apply, inv_eq, first_eq, lit_eq]
  have l0 : View.ld x0 r0_0 = x0 := View.ld_unit_zero (S := S1024x128) hz _ x0
  have l2 : View.ld x2 r0_1 = x2 := View.ld_unit_zero (S := S1x128) hz _ x2
  have l3 : View.ld x3 r0_1 = x3 := View.ld_unit_zero (S := S1x128) hz _ x3
  simp only [pay1_apply, l0, l2, l3]
  unfold blockOut kOut
  simp only [m1, m2, m3]
  rfl

/-- THE BLOCK: what the body leaves in its result buffer, at any index. -/
theorem out_apply (y : S1024x2048.Idx) : out0_4 x0 x1 x2 x3 y = blockOut x0 x1 x2 x3 y := by
  unfold out0_4
  refine View.canon_apply_of_pieces (Val := Elt Ideal) (blockOut x0 x1 x2 x3) _ ?_ y (cover0_4 _ _ _ _ _ _ _ _ _ _ _ _ _ _ _ _ y)
  simp only [List.forall_mem_cons]
  refine ⟨?_, ?_, ?_, ?_, ?_, ?_, ?_, ?_, ?_, ?_, ?_, ?_, ?_, ?_, ?_, ?_, ?_⟩
  · exact slab_piece x0 x1 x2 x3 15 _ rfl rfl _ _ rfl
  · exact slab_piece x0 x1 x2 x3 14 _ rfl rfl _ _ rfl
  · exact slab_piece x0 x1 x2 x3 13 _ rfl rfl _ _ rfl
  · exact slab_piece x0 x1 x2 x3 12 _ rfl rfl _ _ rfl
  · exact slab_piece x0 x1 x2 x3 11 _ rfl rfl _ _ rfl
  · exact slab_piece x0 x1 x2 x3 10 _ rfl rfl _ _ rfl
  · exact slab_piece x0 x1 x2 x3 9 _ rfl rfl _ _ rfl
  · exact slab_piece x0 x1 x2 x3 8 _ rfl rfl _ _ rfl
  · exact slab_piece x0 x1 x2 x3 7 _ rfl rfl _ _ rfl
  · exact slab_piece x0 x1 x2 x3 6 _ rfl rfl _ _ rfl
  · exact slab_piece x0 x1 x2 x3 5 _ rfl rfl _ _ rfl
  · exact slab_piece x0 x1 x2 x3 4 _ rfl rfl _ _ rfl
  · exact slab_piece x0 x1 x2 x3 3 _ rfl rfl _ _ rfl
  · exact slab_piece x0 x1 x2 x3 2 _ rfl rfl _ _ rfl
  · exact slab_piece x0 x1 x2 x3 1 _ rfl rfl _ _ rfl
  · exact slab_piece x0 x1 x2 x3 0 _ rfl rfl _ _ rfl
  · exact fun p hp => absurd hp List.not_mem_nil

end Block

end Cert.Proof.KernelBlock

end
-- ==== Proof.KernelArray.lean ====
/- What the kernel's result array holds after the run, as one function of its four argument arrays. -/
module

public import proofs.«01_k».proof.Proof.KernelOut

@[expose] public section

noncomputable section

open scoped BigOperators

namespace Cert.Proof.KernelArray

open Idealize.ShloMosaic Idealize.ShloMosaic.TcCoe Idealize.ShloMosaic.ValueIdx
open Idealize.ShloMosaic.Pipeline (Dat)
open Cert.KernelIdeal Cert.KernelIdeal.Gen Cert.Proof.Forms Cert.Proof.KernelBlock

variable (m : (ℓ : Loc nD τ sig) → Buf (Elt Ideal) ℓ)

/-- The whole result array of one device, from its argument arrays. -/
def kArr (c : Dev nD) : S16384x2048.Idx → EReal := fun i =>
  kOut (fun k => m ((c : Thread nD τ).loc main_arg0) (ix2 (i 0) k))
    (m ((c : Thread nD τ).loc main_arg1) (ix1 0)) (m ((c : Thread nD τ).loc main_arg1) (ix1 31))
    (fun k => m ((c : Thread nD τ).loc main_arg2) (ix1 k)) (fun k => m ((c : Thread nD τ).loc main_arg3) (ix1 k)) (i 1)

/-- The staged grid is the grid with a unit axis put in front. -/
theorem V_grid (c : Dev nD) : (V m c main_call0_v0 : S1x32.Idx → EReal)
    = shapeCast S1x32 (m ((c : Thread nD τ).loc main_arg1) : Vec Ideal S32 .f32) shapeCasts_S32_S1x32 := by
  dsimp only [V, StableHlo.after]
  rfl

/-- The staged lower bounds are the lower bounds with a unit axis put in front. -/
theorem V_lower (c : Dev nD) : (V m c main_call0_v1 : S1x128.Idx → EReal)
    = shapeCast S1x128 (m ((c : Thread nD τ).loc main_arg2) : Vec Ideal S128 .f32) shapeCasts_S128_S1x128 := by
  dsimp only [V, StableHlo.after]
  rfl

/-- The staged upper bounds are the upper bounds with a unit axis put in front. -/
theorem V_upper (c : Dev nD) : (V m c main_call0_v2 : S1x128.Idx → EReal)
    = shapeCast S1x128 (m ((c : Thread nD τ).loc main_arg3) : Vec Ideal S128 .f32) shapeCasts_S128_S1x128 := by
  dsimp only [V, StableHlo.after]
  rfl

/-- Where each window's block of point `t` starts, and how large the last one is. -/
theorem starts : ∀ t : Fin cfg0.N,
    (win0_0.index t 0 * win0_0.size 0 = t.val * 1024 ∧ win0_0.index t 1 * win0_0.size 1 = 0)
    ∧ (win0_1.index t 0 * win0_1.size 0 = 0 ∧ win0_1.index t 1 * win0_1.size 1 = 0)
    ∧ (win0_2.index t 0 * win0_2.size 0 = 0 ∧ win0_2.index t 1 * win0_2.size 1 = 0)
    ∧ (win0_3.index t 0 * win0_3.size 0 = 0 ∧ win0_3.index t 1 * win0_3.size 1 = 0)
    ∧ (win0_4.index t 0 * win0_4.size 0 = t.val * 1024 ∧ win0_4.xsize (grid0.coords t) 0 = 1024
      ∧ win0_4.index t 1 * win0_4.size 1 = 0 ∧ win0_4.xsize (grid0.coords t) 1 = 2048) :=
  (by decide +kernel : ∀ t : Fin grid0.N,
    (win0_0.index t 0 * win0_0.size 0 = t.val * 1024 ∧ win0_0.index t 1 * win0_0.size 1 = 0)
      ∧ (win0_1.index t 0 * win0_1.size 0 = 0 ∧ win0_1.index t 1 * win0_1.size 1 = 0)
      ∧ (win0_2.index t 0 * win0_2.size 0 = 0 ∧ win0_2.index t 1 * win0_2.size 1 = 0)
      ∧ (win0_3.index t 0 * win0_3.size 0 = 0 ∧ win0_3.index t 1 * win0_3.size 1 = 0)
      ∧ (win0_4.index t 0 * win0_4.size 0 = t.val * 1024 ∧ win0_4.xsize (grid0.coords t) 0 = 1024
        ∧ win0_4.index t 1 * win0_4.size 1 = 0 ∧ win0_4.xsize (grid0.coords t) 1 = 2048))

/-- Point `t`'s block of the parameters is rows `1024 t` to `1024 t + 1023`. -/
theorem iblk0 (c : Dev nD) (t : Fin cfg0.N) (r : Fin 1024) (k : Fin 128) (h : t.val * 1024 + r.val < 16384) :
    (iblk m c 0 t : S1024x128.Idx → EReal) (ix2 r k)
      = m ((c : Thread nD τ).loc main_arg0) (ix2 (⟨t.val * 1024 + r.val, h⟩ : Fin 16384) k) := by
  rw [← V_main_arg0 m c]
  refine congrArg (V m c main_arg0 : S16384x128.Idx → EReal) (funext fun a => ?_)
  match a with
  | ⟨0, _⟩ => exact Fin.ext (by
      show win0_0.index t 0 * win0_0.size 0 + 1 * r.val = t.val * 1024 + r.val
      rw [(starts t).1.1]; omega)
  | ⟨1, _⟩ => exact Fin.ext (by
      show win0_0.index t 1 * win0_0.size 1 + 1 * k.val = k.val
      rw [(starts t).1.2]; omega)

/-- Every point's block of the grid is the whole grid. -/
theorem iblk1 (c : Dev nD) (t : Fin cfg0.N) (k : Fin 32) :
    (iblk m c 1 t : S1x32.Idx → EReal) (ix2 0 k) = m ((c : Thread nD τ).loc main_arg1) (ix1 k) := by
  rw [← shapeCast_a_1a_apply (m ((c : Thread nD τ).loc main_arg1) : Vec Ideal S32 .f32) shapeCasts_S32_S1x32 0 k, ← V_grid m c]
  refine congrArg (V m c main_call0_v0 : S1x32.Idx → EReal) (funext fun a => ?_)
  match a with
  | ⟨0, _⟩ => exact Fin.ext (by
      show win0_1.index t 0 * win0_1.size 0 + 1 * 0 = 0
      rw [(starts t).2.1.1])
  | ⟨1, _⟩ => exact Fin.ext (by
      show win0_1.index t 1 * win0_1.size 1 + 1 * k.val = k.val
      rw [(starts t).2.1.2]; omega)

/-- Every point's block of the lower bounds is all of them. -/
theorem iblk2 (c : Dev nD) (t : Fin cfg0.N) (k : Fin 128) :
    (iblk m c 2 t : S1x128.Idx → EReal) (ix2 0 k) = m ((c : Thread nD τ).loc main_arg2) (ix1 k) := by
  rw [← shapeCast_a_1a_apply (m ((c : Thread nD τ).loc main_arg2) : Vec Ideal S128 .f32) shapeCasts_S128_S1x128 0 k, ← V_lower m c]
  refine congrArg (V m c main_call0_v1 : S1x128.Idx → EReal) (funext fun a => ?_)
  match a with
  | ⟨0, _⟩ => exact Fin.ext (by
      show win0_2.index t 0 * win0_2.size 0 + 1 * 0 = 0
      rw [(starts t).2.2.1.1])
  | ⟨1, _⟩ => exact Fin.ext (by
      show win0_2.index t 1 * win0_2.size 1 + 1 * k.val = k.val
      rw [(starts t).2.2.1.2]; omega)

/-- Every point's block of the upper bounds is all of them. -/
theorem iblk3 (c : Dev nD) (t : Fin cfg0.N) (k : Fin 128) :
    (iblk m c 3 t : S1x128.Idx → EReal) (ix2 0 k) = m ((c : Thread nD τ).loc main_arg3) (ix1 k) := by
  rw [← shapeCast_a_1a_apply (m ((c : Thread nD τ).loc main_arg3) : Vec Ideal S128 .f32) shapeCasts_S128_S1x128 0 k, ← V_upper m c]
  refine congrArg (V m c main_call0_v2 : S1x128.Idx → EReal) (funext fun a => ?_)
  match a with
  | ⟨0, _⟩ => exact Fin.ext (by
      show win0_3.index t 0 * win0_3.size 0 + 1 * 0 = 0
      rw [(starts t).2.2.2.1.1])
  | ⟨1, _⟩ => exact Fin.ext (by
      show win0_3.index t 1 * win0_3.size 1 + 1 * k.val = k.val
      rw [(starts t).2.2.2.1.2]; omega)

/-- What point `t` writes back is its block of the whole result. -/
theorem flushed_eq (c : Dev nD) (t : Fin cfg0.N) :
    (dats m 0 c).flushed 4 t = (win0_4.blk t).view.read (Elt Ideal) (kArr m c) := by
  rw [Value.flushed4]
  have hN : t.val < 16 := N_0 ▸ t.isLt
  refine funext fun (y : S1024x2048.Idx) => ?_
  obtain ⟨r, l, rfl⟩ : ∃ r l, y = ix2 r l := ⟨y 0, y 1, eq_ix2 y⟩
  have hr : r.val < 1024 := r.isLt
  have hb : t.val * 1024 + r.val < 16384 := by omega
  have e : (win0_4.rect t).emb (ix2 r l : S1024x2048.Idx)
      = (ix2 (⟨t.val * 1024 + r.val, hb⟩ : Fin 16384) l : S16384x2048.Idx) := by
    funext a
    match a with
    | ⟨0, _⟩ => exact Fin.ext (by
        show win0_4.index t 0 * win0_4.size 0 + 1 * r.val = t.val * 1024 + r.val
        rw [(starts t).2.2.2.2.1]; omega)
    | ⟨1, _⟩ => exact Fin.ext (by
        show win0_4.index t 1 * win0_4.size 1 + 1 * l.val = l.val
        rw [(starts t).2.2.2.2.2.2.1]; omega)
  show out0_4 (iblk m c 0 t) (iblk m c 1 t) (iblk m c 2 t) (iblk m c 3 t) (ix2 r l) = kArr m c ((win0_4.rect t).emb (ix2 r l))
  rw [e, out_apply]
  show kOut (fun k => (iblk m c 0 t : S1024x128.Idx → EReal) (ix2 r k)) ((iblk m c 1 t : S1x32.Idx → EReal) (ix2 0 0))
    ((iblk m c 1 t : S1x32.Idx → EReal) (ix2 0 31)) (fun k => (iblk m c 2 t : S1x128.Idx → EReal) (ix2 0 k))
    (fun k => (iblk m c 3 t : S1x128.Idx → EReal) (ix2 0 k)) l = _
  simp only [iblk0 m c t r _ hb, iblk1, iblk2, iblk3]
  rfl

/-- An index of the result array is in point `t`'s block when its row is one of that block's 1024. -/
theorem mem_blk (t : Fin cfg0.N) (i : S16384x2048.Idx) :
    i ∈ ((cfg0.win 4).blk t).view.set ↔ t.val * 1024 ≤ (i 0 : Nat) ∧ (i 0 : Nat) < t.val * 1024 + 1024 := by
  show i ∈ ((View.whole main_v0).slice (win0_4.rect t)).set ↔ _
  rw [View.set_slice_whole, Rect.mem_set_unit]
  have h1 : (i 1 : Nat) < 2048 := (i 1).isLt
  obtain ⟨e0, s0, e1, s1⟩ := (starts t).2.2.2.2
  refine ⟨fun h => ?_, fun h a => ?_⟩
  · have h' : win0_4.index t 0 * win0_4.size 0 ≤ (i 0 : Nat)
        ∧ (i 0 : Nat) < win0_4.index t 0 * win0_4.size 0 + win0_4.xsize (grid0.coords t) 0 := h 0
    rw [e0, s0] at h'
    exact h'
  · match a with
    | ⟨0, _⟩ =>
      show win0_4.index t 0 * win0_4.size 0 ≤ (i 0 : Nat)
        ∧ (i 0 : Nat) < win0_4.index t 0 * win0_4.size 0 + win0_4.xsize (grid0.coords t) 0
      rw [e0, s0]
      exact h
    | ⟨1, _⟩ =>
      show win0_4.index t 1 * win0_4.size 1 ≤ (i 1 : Nat)
        ∧ (i 1 : Nat) < win0_4.index t 1 * win0_4.size 1 + win0_4.xsize (grid0.coords t) 1
      rw [e1, s1]
      omega

/-- The sixteen blocks cover the result array. -/
theorem cover (i : S16384x2048.Idx) :
    ∃ t : Fin cfg0.N, (cfg0.win 4).flush t = true ∧ i ∈ ((cfg0.win 4).blk t).view.set := by
  have h0 : (i 0 : Nat) < 16384 := (i 0).isLt
  have hN : cfg0.N = 16 := N_0
  refine ⟨⟨(i 0 : Nat) / 1024, by omega⟩, flush0_4 _, ?_⟩
  rw [mem_blk]
  dsimp only
  omega

/-- THE ARRAY: after the run the result array holds `kArr`. -/
theorem final (c : Dev nD) : (dats m 0 c).arrAt 4 cfg0.N = kArr m c :=
  (dats m 0 c).arrAt_eq_of_cover 4 (kArr m c) (fun t _ => flushed_eq m c t) cover

end Cert.Proof.KernelArray

end
-- ==== Proof.RefForms.lean ====
/- The reference's formula at one element, over the extended reals, and how its array operations read at an index. -/
module

public import proofs.«01_k».proof.Proof.Forms
public import Idealize.ShloMosaic.Lib.ValueLayout
public import Idealize.ShloMosaic.Lib.ValueLayoutCasts
public import Idealize.ShloMosaic.Lib.Pipeline.Value

@[expose] public section

noncomputable section

open scoped BigOperators

namespace Cert.Proof.Forms

open Idealize.ShloMosaic Idealize.ShloMosaic.ValueIdx

/-- How many grid entries lie below `x`. -/
def rCount (g : Fin 32 → EReal) (x : EReal) : ℕ := (Finset.univ.filter fun i => g i < x).card

/-- The right end of the grid interval the reference uses: the count, moved to 1 from 0 and to 31 from 32. -/
def rIdx (g : Fin 32 → EReal) (x : EReal) : ℕ :=
  if rCount g x = 0 then 1 else if rCount g x = 32 then 31 else rCount g x

/-- The count is at most 32. -/
theorem rCount_le (g : Fin 32 → EReal) (x : EReal) : rCount g x ≤ 32 := by
  refine (Finset.card_le_univ _).trans ?_
  simp

/-- The interval has a left end. -/
theorem rIdx_pos (g : Fin 32 → EReal) (x : EReal) : 1 ≤ rIdx g x := by
  unfold rIdx
  split_ifs <;> omega

/-- The right end is a grid entry. -/
theorem rIdx_lt (g : Fin 32 → EReal) (x : EReal) : rIdx g x < 32 := by
  have := rCount_le g x
  unfold rIdx
  split_ifs <;> omega

/-- The weight of the left end of the interval. -/
def rW0 (g : Fin 32 → EReal) (x : EReal) : EReal :=
  Ideal.div (g ⟨rIdx g x, rIdx_lt g x⟩ - x)
    (g ⟨rIdx g x, rIdx_lt g x⟩ - g ⟨rIdx g x - 1, lt_of_le_of_lt (Nat.sub_le _ _) (rIdx_lt g x)⟩)

/-- A one-hot entry: one where the two positions agree. -/
def hot (a b : ℕ) : EReal := if a = b then 1 else 0

/-- The interpolation weight of grid entry `n` at coordinate `x`. -/
def rWeight (g : Fin 32 → EReal) (x : EReal) (n : ℕ) : EReal :=
  rW0 g x * hot (rIdx g x - 1) n + (Ideal.ofBits .f32 0x3F800000#32 - rW0 g x) * hot (rIdx g x) n

/-- One element of the reference's result: column `c` of the row whose parameters are `P`, for the grid `g` and the
bounds `L`, `U`. -/
def rOut (P : Fin 128 → EReal) (g : Fin 32 → EReal) (L U : Fin 128 → EReal) (c : Fin 2048) : EReal :=
  rShare (fun k => rExp (rClip (P ⟨k.val, by omega⟩) (L ⟨k.val, by omega⟩) (U ⟨k.val, by omega⟩)))
      ⟨c.val % 64, Nat.mod_lt _ (by norm_num)⟩
    * rWeight g (rClip (P ⟨64 + c.val % 64, by omega⟩) (L ⟨64 + c.val % 64, by omega⟩) (U ⟨64 + c.val % 64, by omega⟩))
        (c.val / 64)

/-- What the precondition says of the grid `g` and the bounds `L`, `U`: the grid is uniform and increasing over the
reals; the first 64 pairs of bounds lie in order in [0, 1]; the others lie within the grid. -/
structure GridFacts (g : Fin 32 → EReal) (L U : Fin 128 → EReal) : Prop where
  uniform : ∃ a h : ℝ, 0 < h ∧ ∀ i : Fin 32, g i = ((a + i.val * h : ℝ) : EReal)
  shares : ∀ n : Fin 128, n.val < 64 → 0 ≤ L n ∧ L n < U n ∧ U n ≤ 1
  coords : ∀ n : Fin 128, 64 ≤ n.val → (g 0 ≤ L n ∧ L n ≤ g 31) ∧ g 0 ≤ U n ∧ U n ≤ g 31

end Cert.Proof.Forms

namespace Cert.Proof.RefShape

open Idealize.ShloMosaic Idealize.ShloMosaic.ValueIdx

variable {α : Type}

/-- A row given a unit axis in front and repeated down the rows reads the row at the column. -/
theorem along_rows {n m : ℕ} (hm : m ≠ 1) (x : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (i : Fin n) (j : Fin m) :
    broadcastInDim ⟨2, ![n, m]⟩ ![0, 1] h2 (broadcastInDim ⟨2, ![1, m]⟩ ![1] h1 x) (ix2 i j) = x (ix1 j) :=
  (broadcastInDim_apply _ h2 _ _ (ix2 0 j) fun a => match a with
    | ⟨0, _⟩ => rfl
    | ⟨1, _⟩ => (if_neg hm).symm).trans
  (broadcastInDim_apply _ h1 _ _ (ix1 j) fun a => match a with
    | ⟨0, _⟩ => (if_neg hm).symm)

/-- A row of one entry per column, repeated down the rows, reads the entry of the column. -/
theorem down_rows {n m : ℕ} (hm : m ≠ 1) (x : (⟨2, ![1, m]⟩ : Shape).Idx → α)
    (h2 : (⟨2, ![1, m]⟩ : Shape).BroadcastsInDim ⟨2, ![n, m]⟩ ![0, 1]) (i : Fin n) (j : Fin m) :
    broadcastInDim ⟨2, ![n, m]⟩ ![0, 1] h2 x (ix2 i j) = x (ix2 0 j) :=
  broadcastInDim_apply _ h2 _ _ (ix2 0 j) fun a => match a with
    | ⟨0, _⟩ => rfl
    | ⟨1, _⟩ => (if_neg hm).symm

/-- A column given a unit axis behind reads the column at the row. -/
theorem as_column {n : ℕ} (hn : n ≠ 1) (x : (⟨1, ![n]⟩ : Shape).Idx → α)
    (h1 : (⟨1, ![n]⟩ : Shape).BroadcastsInDim ⟨2, ![n, 1]⟩ ![0]) (i : Fin n) (j : Fin 1) :
    broadcastInDim ⟨2, ![n, 1]⟩ ![0] h1 x (ix2 i j) = x (ix1 i) :=
  broadcastInDim_apply _ h1 _ _ (ix1 i) fun a => match a with
    | ⟨0, _⟩ => (if_neg hn).symm

/-- A column given a unit axis behind and repeated along the columns reads the column at the row. -/
theorem along_columns {n m : ℕ} (hn : n ≠ 1) (x : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, m]⟩ ![0, 1]) (i : Fin n) (j : Fin m) :
    broadcastInDim ⟨2, ![n, m]⟩ ![0, 1] h2 (broadcastInDim ⟨2, ![n, 1]⟩ ![0] h1 x) (ix2 i j) = x (ix1 i) :=
  (broadcastInDim_apply _ h2 _ _ (ix2 i 0) fun a => match a with
    | ⟨0, _⟩ => (if_neg hn).symm
    | ⟨1, _⟩ => rfl).trans (as_column hn x h1 i 0)

/-- A matrix given a unit axis in the middle and repeated along it reads the matrix at the outer coordinates. -/
theorem along_middle {n k m : ℕ} (hn : n ≠ 1) (hm : m ≠ 1) (x : (⟨2, ![n, m]⟩ : Shape).Idx → α)
    (h1 : (⟨2, ![n, m]⟩ : Shape).BroadcastsInDim ⟨3, ![n, 1, m]⟩ ![0, 2])
    (h2 : (⟨3, ![n, 1, m]⟩ : Shape).BroadcastsInDim ⟨3, ![n, k, m]⟩ ![0, 1, 2]) (i : Fin n) (l : Fin k) (j : Fin m) :
    broadcastInDim ⟨3, ![n, k, m]⟩ ![0, 1, 2] h2 (broadcastInDim ⟨3, ![n, 1, m]⟩ ![0, 2] h1 x) (ix3 i l j) = x (ix2 i j) :=
  (broadcastInDim_apply _ h2 _ _ (ix3 i 0 j) fun a => match a with
    | ⟨0, _⟩ => (if_neg hn).symm
    | ⟨1, _⟩ => rfl
    | ⟨2, _⟩ => (if_neg hm).symm).trans
  (broadcastInDim_apply _ h1 _ _ (ix2 i j) fun a => match a with
    | ⟨0, _⟩ => (if_neg hn).symm
    | ⟨1, _⟩ => (if_neg hm).symm)

/-- Dimension numbers that take one entry of a list per entry of a column of positions. -/
abbrev pickDims (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Taking entries of a list at a column of positions: where the position is the word of `k`, in range, entry `k`. -/
theorem pick_apply {N R : ℕ} (wf : GatherDims.WF ⟨1, ![N]⟩ ⟨2, ![R, 1]⟩ ⟨1, ![R]⟩ [] [0] [] [0] [] 1 ![1])
    (x : (⟨1, ![N]⟩ : Shape).Idx → α) (pos : IVec ⟨2, ![R, 1]⟩ 32) (q : Fin R) (k : Fin N) (hN : N < 2 ^ 31)
    (hk : pos (ix2 q 0) = BitVec.ofNat 32 k.val) :
    Host.gather (pickDims N R wf) x pos (ix1 q) = x (ix1 k) := by
  unfold Host.gather
  refine congrArg x (funext fun a => ?_)
  obtain rfl : a = 0 := Subsingleton.elim _ _
  refine Fin.ext ?_
  show (pickDims N R wf).start (ix1 q) pos 0 + (pickDims N R wf).batchCoord (ix1 q) 0
    + (pickDims N R wf).offCoord (ix1 q) 0 = k.val
  rw [GatherDims.batchCoord_eq_zero _ _ _ List.not_mem_nil,
    GatherDims.offCoord_eq_zero _ _ _ fun h => ((GatherDims.mem_sKept _ _).mp h).1 (List.mem_singleton.mpr rfl)]
  unfold GatherDims.start
  rw [dif_pos (show (0 : Fin 1) ∈ (pickDims N R wf).startIndexMap from List.mem_singleton.mpr rfl)]
  have e : (pickDims N R wf).siIdx (ix1 q) ⟨List.idxOf (0 : Fin 1) (pickDims N R wf).startIndexMap,
      List.idxOf_lt_length_iff.mpr (List.mem_singleton.mpr rfl)⟩ = ix2 q 0 := by
    funext b
    refine Fin.ext ?_
    match b with
    | ⟨0, _⟩ => rfl
    | ⟨1, _⟩ => rfl
  rw [e, hk, Forms.toInt_small _ (by omega)]
  have hlt := k.isLt
  show min ((k.val : ℤ).toNat) (N - 1) + 0 + 0 = k.val
  rw [Int.toNat_natCast]
  omega

/-- Equality of two small words, as a one-bit word read as a number, is the one-hot entry. -/
theorem hot_word (a b : ℕ) (ha : a < 2 ^ 31) (hb : b < 2 ^ 31) :
    (((IntOp.cmpi .eq (BitVec.ofNat 32 a) (BitVec.ofNat 32 b)).toNat : ℝ) : EReal) = Forms.hot a b := by
  unfold Forms.hot
  by_cases h : a = b
  · subst h
    simp [IntOp.cmpi]
  · have hne : BitVec.ofNat 32 a ≠ BitVec.ofNat 32 b := fun e => h (by
      have := congrArg BitVec.toNat e
      rw [BitVec.toNat_ofNat, BitVec.toNat_ofNat, Nat.mod_eq_of_lt (by omega), Nat.mod_eq_of_lt (by omega)] at this
      exact this)
    simp [IntOp.cmpi, h, hne]

end Cert.Proof.RefShape

end
-- ==== Proof.RefValue.lean ====
/- What the reference's result holds, element by element. -/
module

public import proofs.«01_k».proof.Proof.RefForms
public import proofs.«01_k».proof.Proof.Gen.ReferenceIdeal.Run
public import Idealize.ShloMosaic.Lib.Pointwise.Reduce
public import Idealize.ShloMosaic.Lib.IndicatorCount

@[expose] public section

noncomputable section

open scoped BigOperators

namespace Cert.Proof.RefValue

open Idealize.ShloMosaic hiding ix1 ix2 ix3
open Idealize.ShloMosaic.TcCoe Idealize.SL.Sem Idealize.ShloMosaic.StableHlo
open Cert.ReferenceIdeal Cert.ReferenceIdeal.Gen Cert.ReferenceIdeal.Value Cert.Proof.Forms Cert.Proof.RefShape
open Idealize.ShloMosaic.ValueIdx (ix1 ix2 ix3)

variable (V0 : Valuation τ sig (Elt Ideal))

/-- The parameter in row `b`, column `k`. -/
def par (b : Fin 16384) (k : Fin 128) : EReal := (V0 (Proc.devRef .tc main_arg0) : S16384x128.Idx → EReal) (ix2 b k)

/-- Entry `k` of the grid. -/
def grid (k : Fin 32) : EReal := (V0 (Proc.devRef .tc main_arg1) : S32.Idx → EReal) (ix1 k)

/-- The lower bound of column `k`. -/
def low (k : Fin 128) : EReal := (V0 (Proc.devRef .tc main_arg2) : S128.Idx → EReal) (ix1 k)

/-- The upper bound of column `k`. -/
def upp (k : Fin 128) : EReal := (V0 (Proc.devRef .tc main_arg3) : S128.Idx → EReal) (ix1 k)

/-- The clipped parameter in row `b`, column `k`. -/
def clip (b : Fin 16384) (k : Fin 128) : EReal := rClip (par V0 b k) (low V0 k) (upp V0 k)

/-- The reference's clipped parameters. -/
theorem v18_apply (b : Fin 16384) (k : Fin 128) : (res_main_v18 V0 : S16384x128.Idx → EReal) (ix2 b k) = clip V0 b k := by
  have e2 : ∀ x : S128.Idx → EReal, broadcastInDim S16384x128 ![0, 1] bcast_S1x128_S16384x128_0_1
      (broadcastInDim S1x128 ![1] bcast_S128_S1x128_1 x) (ix2 b k) = x (ix1 k) :=
    fun x => along_rows (by norm_num) x bcast_S128_S1x128_1 bcast_S1x128_S16384x128_0_1 b k
  have e2' := e2 (res_main_v2 V0)
  have e5 := e2 (res_main_v5 V0)
  unfold clip rClip
  rw [show centre (low V0 k) (upp V0 k) = _ from e2'.symm, show radius (low V0 k) (upp V0 k) = _ from e5.symm]
  rfl

/-- The reference's exponential variables. -/
theorem v24_apply (b : Fin 16384) (n : Fin 64) : (res_main_v24 V0 : S16384x64.Idx → EReal) (ix2 b n)
    = rExp (clip V0 b ⟨n.val, by omega⟩) := by
  have e := ValueIdx.slice2_axis1_apply 0 (res_main_v18 V0 : S16384x128.Idx → EReal) slices_S16384x128_S16384x64_0_0 b n
    ⟨n.val, by omega⟩ (by simp)
  rw [v18_apply] at e
  unfold rExp
  rw [← e]
  rfl

/-- The reference's shares. -/
theorem share_apply (b : Fin 16384) (n : Fin 64) :
    (Host.divf (res_main_v24 V0) (broadcastInDim S16384x64 ![0, 1] bcast_S16384x1_S16384x64_0_1 (broadcastInDim S16384x1 ![0] bcast_S16384_S16384x1_0 (Host.reduceAdd (res_main_v24 V0) (constant (F := Ideal) S_ .f32 0x00000000#32) reducesTo_S16384x64_S16384_d1 h_S_))) : S16384x64.Idx → EReal) (ix2 b n)
      = rShare (fun k => rExp (clip V0 b ⟨k.val, by omega⟩)) n := by
  rw [ValueIdx.hostDivf_apply, v24_apply, along_columns (by norm_num) _ bcast_S16384_S16384x1_0 bcast_S16384x1_S16384x64_0_1 b n,
    ValueIdx.hostReduceAdd_apply, Ideal.hostReduceAdd_r2_a1]
  unfold rShare
  simp only [← v24_apply]
  rfl

/-- The reference's coordinates, in one list: entry `64 b + n` is row `b`, column `64 + n` of the clipped parameters. -/
theorem v29_apply (b : Fin 16384) (n : Fin 64) (q : Fin 1048576) (hq : q.val = b.val * 64 + n.val) :
    (res_main_v29 V0 : S1048576.Idx → EReal) (ix1 q) = clip V0 b ⟨64 + n.val, by omega⟩ := by
  unfold res_main_v29
  refine (shapeCast_apply _ shapeCasts_S16384x64_S1048576 (ix1 q) (ix2 b n) ?_).trans ?_
  · rw [Shape.rowMajor_val_two, Shape.rowMajor_val_one]
    exact hq.symm
  · rw [ValueIdx.slice2_axis1_apply 64 (res_main_v18 V0 : S16384x128.Idx → EReal) slices_S16384x128_S16384x64_0_64 b n
      ⟨64 + n.val, by omega⟩ rfl, v18_apply]

/-- Summing a row of one-bit words, widened, counts the ones in it. -/
theorem count_apply (x : IVec S1048576x32 1) (q : Fin 1048576) :
    (Host.reduce IntOp.addi (extui 32 x natLt_1_32) (constantI S_ 32 0#32) reducesTo_S1048576x32_S1048576_d1 h_S_ : S1048576.Idx → BitVec 32) (ix1 q)
      = BitVec.ofNat 32 (Finset.univ.filter fun k : Fin 32 => x (ix2 q k) = 1#1).card := by
  refine (Host.reduce_eq_fold (IntOp.addi (w := 32)) _ _ reducesTo_S1048576x32_S1048576_d1 h_S_ (ix1 q)).trans ?_
  rw [Shape.ReducesTo.fold_fiber_r2_a1]
  exact IndicatorCount.fold_addi_setWidth_eq_card (fun k : Fin 32 => x (ix2 q k)) Finset.univ

/-- The reference's counts: how many grid entries lie below the coordinate. -/
theorem v36_apply (q : Fin 1048576) : (res_main_v36 V0 : S1048576.Idx → BitVec 32) (ix1 q)
    = BitVec.ofNat 32 (rCount (grid V0) ((res_main_v29 V0 : S1048576.Idx → EReal) (ix1 q))) := by
  unfold res_main_v36
  refine (count_apply _ q).trans ?_
  unfold rCount
  refine congrArg (BitVec.ofNat 32) (congrArg Finset.card (Finset.filter_congr fun k _ => ?_))
  rw [ValueIdx.cmpf_apply, along_rows (by norm_num) _ bcast_S32_S1x32_1 bcast_S1x32_S1048576x32_0_1 q k,
    along_columns (by norm_num) _ bcast_S1048576_S1048576x1_0 bcast_S1048576x1_S1048576x32_0_1 q k]
  show BitVec.ofBool (decide (grid V0 k < (res_main_v29 V0 : S1048576.Idx → EReal) (ix1 q))) = 1#1 ↔ _
  by_cases h : grid V0 k < (res_main_v29 V0 : S1048576.Idx → EReal) (ix1 q) <;> simp [h]

/-- The position the reference gathers at, from the coordinate of entry `q`. -/
def at' (q : Fin 1048576) : ℕ := rIdx (grid V0) ((res_main_v29 V0 : S1048576.Idx → EReal) (ix1 q))

/-- Small words are equal when their numbers are. -/
theorem word_eq_iff (a b : ℕ) (ha : a < 2 ^ 31) (hb : b < 2 ^ 31) :
    IntOp.cmpi .eq (BitVec.ofNat 32 a) (BitVec.ofNat 32 b) = BitVec.ofBool (decide (a = b)) := by
  have e : (BitVec.ofNat 32 a == BitVec.ofNat 32 b) = decide (a = b) := by
    rw [Bool.eq_iff_iff, beq_iff_eq, decide_eq_true_iff]
    refine ⟨fun e => ?_, fun e => e ▸ rfl⟩
    have := congrArg BitVec.toNat e
    rw [BitVec.toNat_ofNat, BitVec.toNat_ofNat, Nat.mod_eq_of_lt (by omega), Nat.mod_eq_of_lt (by omega)] at this
    exact this
  show BitVec.ofBool (BitVec.ofNat 32 a == BitVec.ofNat 32 b) = _
  rw [e]

/-- The position is at least 1. -/
theorem at_pos (q : Fin 1048576) : 1 ≤ at' V0 q := rIdx_pos _ _

/-- The position is a grid entry. -/
theorem at_lt (q : Fin 1048576) : at' V0 q < 32 := rIdx_lt _ _

/-- So is the one left of it. -/
theorem at_pred_lt (q : Fin 1048576) : at' V0 q - 1 < 32 := lt_of_le_of_lt (Nat.sub_le _ _) (at_lt V0 q)

/-- The reference's clamped counts. -/
theorem v42_apply (q : Fin 1048576) : (res_main_v42 V0 : S1048576.Idx → BitVec 32) (ix1 q) = BitVec.ofNat 32 (at' V0 q) := by
  have h39 : (res_main_v39 V0 : S1048576.Idx → BitVec 32) (ix1 q)
      = BitVec.ofNat 32 (if rCount (grid V0) ((res_main_v29 V0 : S1048576.Idx → EReal) (ix1 q)) = 0 then 1
        else rCount (grid V0) ((res_main_v29 V0 : S1048576.Idx → EReal) (ix1 q))) := by
    show Scalar.select (IntOp.cmpi .eq ((res_main_v36 V0 : S1048576.Idx → BitVec 32) (ix1 q)) (BitVec.ofNat 32 0)) (BitVec.ofNat 32 1)
      ((res_main_v36 V0 : S1048576.Idx → BitVec 32) (ix1 q)) = _
    have hc := rCount_le (grid V0) ((res_main_v29 V0 : S1048576.Idx → EReal) (ix1 q))
    rw [v36_apply, word_eq_iff _ _ (by omega) (by omega)]
    unfold Scalar.select
    split_ifs <;> simp_all
  show Scalar.select (IntOp.cmpi .eq ((res_main_v39 V0 : S1048576.Idx → BitVec 32) (ix1 q)) (BitVec.ofNat 32 32)) (BitVec.ofNat 32 31)
      ((res_main_v39 V0 : S1048576.Idx → BitVec 32) (ix1 q)) = _
  have hc := rCount_le (grid V0) ((res_main_v29 V0 : S1048576.Idx → EReal) (ix1 q))
  rw [h39, word_eq_iff _ _ (by split_ifs <;> omega) (by omega)]
  unfold Scalar.select at' rIdx
  split_ifs <;> simp_all

/-- The position just left of it. -/
theorem v44_apply (q : Fin 1048576) : (res_main_v44 V0 : S1048576.Idx → BitVec 32) (ix1 q) = BitVec.ofNat 32 (at' V0 q - 1) := by
  show IntOp.subi ((res_main_v42 V0 : S1048576.Idx → BitVec 32) (ix1 q)) (1#32) = _
  rw [v42_apply]
  have h1 := at_pos V0 q
  have h2 := at_lt V0 q
  generalize at' V0 q = a at h1 h2
  unfold IntOp.subi
  refine BitVec.eq_of_toNat_eq ?_
  rw [BitVec.toNat_sub, BitVec.toNat_ofNat, BitVec.toNat_ofNat]
  simp
  omega

/-- A small position is not negative, so wrapping leaves it as it is. -/
theorem wrap_small (a : ℕ) (ha : a < 32) (w : BitVec 32) :
    Scalar.select (IntOp.cmpi .slt (BitVec.ofNat 32 a) 0#32) w (BitVec.ofNat 32 a) = BitVec.ofNat 32 a := by
  have e : IntOp.cmpi .slt (BitVec.ofNat 32 a) 0#32 = 0#1 := by
    show BitVec.ofBool ((BitVec.ofNat 32 a).slt 0#32) = _
    rw [BitVec.slt, toInt_small a (by omega), show (0#32 : BitVec 32).toInt = 0 from rfl,
      decide_eq_false (by omega : ¬ (a : ℤ) < 0)]
    rfl
  rw [e]
  rfl

/-- The grid entry at the clamped count. -/
theorem v58_apply (q : Fin 1048576) : (res_main_v58 V0 : S1048576.Idx → EReal) (ix1 q) = grid V0 ⟨at' V0 q, at_lt V0 q⟩ := by
  refine pick_apply gather_S32_S1048576x1_S1048576_n_0_n_n_0_1_1_wf _ _ q ⟨at' V0 q, at_lt V0 q⟩ (by norm_num) ?_
  rw [as_column (by norm_num) _ bcast_S1048576_S1048576x1_0 q 0]
  show Scalar.select (IntOp.cmpi .slt ((res_main_v42 V0 : S1048576.Idx → BitVec 32) (ix1 q)) 0#32) _
    ((res_main_v42 V0 : S1048576.Idx → BitVec 32) (ix1 q)) = _
  rw [v42_apply, wrap_small _ (at_lt V0 q)]

/-- The weight of the left end of the interval. -/
theorem v61_apply (q : Fin 1048576) : (res_main_v61 V0 : S1048576.Idx → EReal) (ix1 q)
    = rW0 (grid V0) ((res_main_v29 V0 : S1048576.Idx → EReal) (ix1 q)) := by
  unfold res_main_v61 rW0
  refine congrArg₂ Ideal.div (congrArg₂ (fun a b : EReal => a - b) (v58_apply V0 q) rfl)
    (congrArg₂ (fun a b : EReal => a - b) (v58_apply V0 q) ?_)
  refine pick_apply gather_S32_S1048576x1_S1048576_n_0_n_n_0_1_1_wf _ _ q
    ⟨at' V0 q - 1, at_pred_lt V0 q⟩ (by norm_num) ?_
  rw [as_column (by norm_num) _ bcast_S1048576_S1048576x1_0 q 0]
  show Scalar.select (IntOp.cmpi .slt ((res_main_v44 V0 : S1048576.Idx → BitVec 32) (ix1 q)) 0#32) _
    ((res_main_v44 V0 : S1048576.Idx → BitVec 32) (ix1 q)) = _
  rw [v44_apply, wrap_small _ (at_pred_lt V0 q)]

/-- The reference's weights: entry `q`, grid entry `k`. -/
theorem weight_apply (q : Fin 1048576) (k : Fin 32) :
    (addf (mulf (broadcastInDim S1048576x32 ![0, 1] bcast_S1048576x1_S1048576x32_0_1 (broadcastInDim S1048576x1 ![0] bcast_S1048576_S1048576x1_0 (res_main_v61 V0))) (uitofp .f32 (cmpi .eq (broadcastInDim S1048576x32 ![0, 1] bcast_S1048576x1_S1048576x32_0_1 (broadcastInDim S1048576x1 ![0] bcast_S1048576_S1048576x1_0 (subi (res_main_v42 V0) (broadcastInDim S1048576 ![] bcast_S_S1048576 (constantI S_ 32 1#32))))) (broadcastInDim S1048576x32 ![0, 1] bcast_S1x32_S1048576x32_0_1 (iotaInDim S1x32 32 1))))) (mulf (broadcastInDim S1048576x32 ![0, 1] bcast_S1048576x1_S1048576x32_0_1 (broadcastInDim S1048576x1 ![0] bcast_S1048576_S1048576x1_0 (subf (broadcastInDim S1048576 ![] bcast_S_S1048576 (constant S_ .f32 0x3F800000#32)) (res_main_v61 V0)))) (uitofp .f32 (cmpi .eq (broadcastInDim S1048576x32 ![0, 1] bcast_S1048576x1_S1048576x32_0_1 (broadcastInDim S1048576x1 ![0] bcast_S1048576_S1048576x1_0 (res_main_v42 V0))) (broadcastInDim S1048576x32 ![0, 1] bcast_S1x32_S1048576x32_0_1 (iotaInDim S1x32 32 1))))) : FVec Ideal S1048576x32 .f32) (ix2 q k)
      = rWeight (grid V0) ((res_main_v29 V0 : S1048576.Idx → EReal) (ix1 q)) k.val := by
  have col : ∀ {α : Type} (x : S1048576.Idx → α), broadcastInDim S1048576x32 ![0, 1] bcast_S1048576x1_S1048576x32_0_1
      (broadcastInDim S1048576x1 ![0] bcast_S1048576_S1048576x1_0 x) (ix2 q k) = x (ix1 q) :=
    fun x => along_columns (by norm_num) x bcast_S1048576_S1048576x1_0 bcast_S1048576x1_S1048576x32_0_1 q k
  have row : broadcastInDim S1048576x32 ![0, 1] bcast_S1x32_S1048576x32_0_1 (iotaInDim S1x32 32 1) (ix2 q k)
      = BitVec.ofNat 32 k.val := down_rows (by norm_num) _ bcast_S1x32_S1048576x32_0_1 q k
  have hk : k.val < 32 := k.isLt
  have hot42 : (((IntOp.cmpi .eq ((res_main_v42 V0 : S1048576.Idx → BitVec 32) (ix1 q)) (BitVec.ofNat 32 k.val)).toNat : ℝ) : EReal)
      = hot (at' V0 q) k.val := by
    have := at_lt V0 q
    rw [v42_apply, hot_word _ _ (by omega) (by omega)]
  have hot44 : (((IntOp.cmpi .eq ((res_main_v44 V0 : S1048576.Idx → BitVec 32) (ix1 q)) (BitVec.ofNat 32 k.val)).toNat : ℝ) : EReal)
      = hot (at' V0 q - 1) k.val := by
    have := at_lt V0 q
    rw [v44_apply, hot_word _ _ (by omega) (by omega)]
  unfold rWeight
  rw [← v61_apply]
  refine congrArg₂ (fun a b : EReal => a + b) (congrArg₂ (fun a b : EReal => a * b) (col _) ?_)
    (congrArg₂ (fun a b : EReal => a * b) (col _) ?_)
  · refine Eq.trans ?_ hot44
    refine congrArg (fun w : BitVec 1 => ((w.toNat : ℝ) : EReal)) ?_
    exact congrArg₂ (IntOp.cmpi .eq) (col _) row
  · refine Eq.trans ?_ hot42
    refine congrArg (fun w : BitVec 1 => ((w.toNat : ℝ) : EReal)) ?_
    exact congrArg₂ (IntOp.cmpi .eq) (col _) row

/-- The reference's result, as a function of the contents it was launched at. -/
def result : FVec Ideal S16384x2048 .f32 :=
  shapeCast _ (mulf (broadcastInDim S16384x32x64 ![0, 1, 2] bcast_S16384x1x64_S16384x32x64_0_1_2 (broadcastInDim S16384x1x64 ![0, 2] bcast_S16384x64_S16384x1x64_0_2 (Host.divf (res_main_v24 V0) (broadcastInDim S16384x64 ![0, 1] bcast_S16384x1_S16384x64_0_1 (broadcastInDim S16384x1 ![0] bcast_S16384_S16384x1_0 (Host.reduceAdd (res_main_v24 V0) (constant S_ .f32 0x00000000#32) reducesTo_S16384x64_S16384_d1 h_S_)))))) (transpose S16384x32x64 [0, 2, 1] (shapeCast _ (addf (mulf (broadcastInDim S1048576x32 ![0, 1] bcast_S1048576x1_S1048576x32_0_1 (broadcastInDim S1048576x1 ![0] bcast_S1048576_S1048576x1_0 (res_main_v61 V0))) (uitofp .f32 (cmpi .eq (broadcastInDim S1048576x32 ![0, 1] bcast_S1048576x1_S1048576x32_0_1 (broadcastInDim S1048576x1 ![0] bcast_S1048576_S1048576x1_0 (subi (res_main_v42 V0) (broadcastInDim S1048576 ![] bcast_S_S1048576 (constantI S_ 32 1#32))))) (broadcastInDim S1048576x32 ![0, 1] bcast_S1x32_S1048576x32_0_1 (iotaInDim S1x32 32 1))))) (mulf (broadcastInDim S1048576x32 ![0, 1] bcast_S1048576x1_S1048576x32_0_1 (broadcastInDim S1048576x1 ![0] bcast_S1048576_S1048576x1_0 (subf (broadcastInDim S1048576 ![] bcast_S_S1048576 (constant S_ .f32 0x3F800000#32)) (res_main_v61 V0)))) (uitofp .f32 (cmpi .eq (broadcastInDim S1048576x32 ![0, 1] bcast_S1048576x1_S1048576x32_0_1 (broadcastInDim S1048576x1 ![0] bcast_S1048576_S1048576x1_0 (res_main_v42 V0))) (broadcastInDim S1048576x32 ![0, 1] bcast_S1x32_S1048576x32_0_1 (iotaInDim S1x32 32 1)))))) shapeCasts_S1048576x32_S16384x64x32) transposes_S16384x64x32_S16384x32x64_0_2_1)) shapeCasts_S16384x32x64_S16384x2048

/-- THE REFERENCE: row `b`, column `c` of its result. -/
theorem result_apply (b : Fin 16384) (c : Fin 2048) :
    (result V0 : S16384x2048.Idx → EReal) (ix2 b c) = rOut (par V0 b) (grid V0) (low V0) (upp V0) c := by
  have hm : c.val / 64 < 32 := by omega
  have hn : c.val % 64 < 64 := Nat.mod_lt _ (by norm_num)
  unfold result
  refine (shapeCast_apply _ shapeCasts_S16384x32x64_S16384x2048 (ix2 b c) (ix3 b ⟨c.val / 64, hm⟩ ⟨c.val % 64, hn⟩) ?_).trans ?_
  · rw [Shape.rowMajor_val_three, Shape.rowMajor_val_two]
    show (b.val * 32 + c.val / 64) * 64 + c.val % 64 = b.val * 2048 + c.val
    omega
  have hq : b.val * 64 + c.val % 64 < 1048576 := by omega
  refine (congrArg₂ (fun a b : EReal => a * b) ((along_middle (by norm_num) (by norm_num) _ bcast_S16384x64_S16384x1x64_0_2
    bcast_S16384x1x64_S16384x32x64_0_1_2 b _ _).trans (share_apply V0 b ⟨c.val % 64, hn⟩)) ?_).trans
    (show _ * rWeight (grid V0) (clip V0 b ⟨64 + c.val % 64, by omega⟩) (c.val / 64) = _ from rfl)
  refine (ValueIdx.transpose_ix3_021_apply _ transposes_S16384x64x32_S16384x32x64_0_2_1 b _ _).trans ?_
  refine (shapeCast_apply _ shapeCasts_S1048576x32_S16384x64x32 _ (ix2 ⟨b.val * 64 + c.val % 64, hq⟩ ⟨c.val / 64, hm⟩) ?_).trans ?_
  · rw [Shape.rowMajor_val_three, Shape.rowMajor_val_two]
    rfl
  rw [weight_apply, v29_apply V0 b ⟨c.val % 64, hn⟩ _ rfl]

end Cert.Proof.RefValue

end
-- ==== Proof.PreRead.lean ====
/- What the precondition's masks say, as statements about the grid and the bounds. -/
module

public import proofs.«01_k».proof.Proof.RefForms
public import proofs.«01_k».proof.Proof.Gen.Pre_linspace_grid

@[expose] public section

noncomputable section

open scoped BigOperators

namespace Cert.Proof.PreRead

open Idealize.ShloMosaic Idealize.ShloMosaic.ValueIdx Cert.Pre_linspace_grid Cert.Pre_linspace_grid.Gen Cert.Proof.Forms

/-- A one-bit word made of a truth value is one when the value is true. -/
theorem bit_iff (b : Bool) : BitVec.ofBool b = 1#1 ↔ b = true := by cases b <;> decide

/-- When the conjunction of two one-bit words is one, both are. -/
theorem both (x y : BitVec 1) (h : IntOp.andi x y = 1#1) : x = 1#1 ∧ y = 1#1 := by
  revert x y; decide

/-- The word of f32 infinity is the top of the extended reals. -/
theorem top_word : Ideal.ofBits .f32 0x7F800000#32 = ⊤ := by simp [Ideal.ofBits, Ideal.ieee]

/-- The word of 31. -/
theorem thirtyone_word : Ideal.ofBits .f32 0x41F80000#32 = ((31 : ℝ) : EReal) := by
  simp [Ideal.ofBits, Ideal.ieee, -EReal.coe_mul]
  norm_num

section
variable (P : FVec Ideal S16384x128 .f32) (g : FVec Ideal S32 .f32) (L U : FVec Ideal S128 .f32)

/-- The grid's first entry, as the predicate reads it. -/
theorem first_read : shapeCast S_ (extractStridedSlice S1 ![0] g slices_S32_S1_0) shapeCasts_S1_S_ = fun _ => g (ix1 0) := by
  funext j
  refine (shapeCast_apply _ shapeCasts_S1_S_ j (ix1 0) ?_).trans ?_
  · have h0 := (Shape.rowMajor S_ j).isLt
    have h1 := (Shape.rowMajor S1 (ix1 0)).isLt
    have e0 : S_.numel = 1 := rfl
    have e1 : S1.numel = 1 := rfl
    omega
  · exact extractStridedSlice_apply _ _ _ _ (ix1 0) fun a => match a with | ⟨0, _⟩ => rfl

/-- The grid's last entry, as the predicate reads it. -/
theorem last_read : shapeCast S_ (extractStridedSlice S1 ![31] g slices_S32_S1_31) shapeCasts_S1_S_ = fun _ => g (ix1 31) := by
  funext j
  refine (shapeCast_apply _ shapeCasts_S1_S_ j (ix1 0) ?_).trans ?_
  · have h0 := (Shape.rowMajor S_ j).isLt
    have h1 := (Shape.rowMajor S1 (ix1 0)).isLt
    have e0 : S_.numel = 1 := rfl
    have e1 : S1.numel = 1 := rfl
    omega
  · exact extractStridedSlice_apply _ _ _ _ (ix1 31) fun a => match a with | ⟨0, _⟩ => rfl

/-- The first 64 entries of a list of 128. -/
theorem front_read (x : FVec Ideal S128 .f32) (n : Fin 64) :
    extractStridedSlice S64 ![0] x slices_S128_S64_0 (ix1 n) = x (ix1 ⟨n.val, by omega⟩) :=
  extractStridedSlice_apply _ _ _ _ _ fun a => match a with | ⟨0, _⟩ => (Nat.zero_add _).symm

/-- The last 64 entries of a list of 128. -/
theorem back_read (x : FVec Ideal S128 .f32) (n : Fin 64) :
    extractStridedSlice S64 ![64] x slices_S128_S64_64 (ix1 n) = x (ix1 ⟨64 + n.val, by omega⟩) :=
  extractStridedSlice_apply _ _ _ _ _ fun a => match a with | ⟨0, _⟩ => rfl

/-- The first mask: every grid entry is finite. -/
theorem finite_mask (h : (fn P g L U).1 = fun _ => 1#1) (i : Fin 32) : max (g (ix1 i)) (-(g (ix1 i))) < ⊤ := by
  have := congrFun h (ix1 i)
  unfold fn fn_part1 at this
  dsimp only at this
  change BitVec.ofBool (decide (max (g (ix1 i)) (-(g (ix1 i))) < Ideal.ofBits .f32 0x7F800000#32)) = 1#1 at this
  rw [bit_iff, decide_eq_true_iff, top_word] at this
  exact this

/-- The second mask: the grid's first entry is below its last. -/
theorem order_mask (h : (fn P g L U).2.1 = fun _ => 1#1) : g (ix1 0) < g (ix1 31) := by
  have := congrFun h ix0
  unfold fn fn_part1 at this
  dsimp only at this
  rw [first_read, last_read] at this
  change BitVec.ofBool (decide (g (ix1 0) < g (ix1 31))) = 1#1 at this
  rwa [bit_iff, decide_eq_true_iff] at this

/-- The third mask: every grid entry is the first plus its position times the step. -/
theorem uniform_mask (h : (fn P g L U).2.2.1 = fun _ => 1#1) (i : Fin 32) :
    g (ix1 i) = g (ix1 0) + ((i.val : ℝ) : EReal) * Ideal.div (g (ix1 31) - g (ix1 0)) ((31 : ℝ) : EReal) := by
  have := congrFun h (ix1 i)
  unfold fn fn_part1 at this
  dsimp only at this
  rw [first_read, last_read] at this
  change BitVec.ofBool (decide (g (ix1 i) = g (ix1 0) + (((BitVec.ofNat 32 i.val).toInt : ℝ) : EReal)
    * Ideal.div (g (ix1 31) - g (ix1 0)) (Ideal.ofBits .f32 0x41F80000#32))) = 1#1 at this
  rw [bit_iff, decide_eq_true_iff, thirtyone_word, toInt_small _ (by omega)] at this
  exact_mod_cast this

/-- The fourth mask: the first 64 bounds lie in order in [0, 1]. -/
theorem share_mask (h : (fn P g L U).2.2.2.1 = fun _ => 1#1) (n : Fin 64) :
    0 ≤ L (ix1 ⟨n.val, by omega⟩) ∧ L (ix1 ⟨n.val, by omega⟩) < U (ix1 ⟨n.val, by omega⟩) ∧ U (ix1 ⟨n.val, by omega⟩) ≤ 1 := by
  have := congrFun h (ix1 n)
  unfold fn fn_part1 at this
  dsimp only at this
  obtain ⟨h12, h3⟩ := both _ _ this
  obtain ⟨h1, h2⟩ := both _ _ h12
  rw [cmpf_apply, front_read] at h1 h3
  rw [cmpf_apply, front_read, front_read] at h2
  change BitVec.ofBool (decide (Ideal.ofBits .f32 0x00000000#32 ≤ L (ix1 ⟨n.val, by omega⟩))) = 1#1 at h1
  change BitVec.ofBool (decide (L (ix1 ⟨n.val, by omega⟩) < U (ix1 ⟨n.val, by omega⟩))) = 1#1 at h2
  change BitVec.ofBool (decide (U (ix1 ⟨n.val, by omega⟩) ≤ Ideal.ofBits .f32 0x3F800000#32)) = 1#1 at h3
  rw [bit_iff, decide_eq_true_iff] at h1 h2 h3
  rw [Ideal.ofBits_zero_f32] at h1
  rw [Ideal.ofBits_one_f32] at h3
  exact ⟨h1, h2, h3⟩

/-- Two comparisons of the last 64 entries of a list with the grid's ends, together. -/
theorem within_read (x : FVec Ideal S128 .f32) (n : Fin 64)
    (h : andi (cmpf .oge (extractStridedSlice S64 ![64] x slices_S128_S64_64) (broadcastInDim S64 ![] bcast_S_S64 (fun _ => g (ix1 0) : FVec Ideal S_ .f32)))
      (cmpf .ole (extractStridedSlice S64 ![64] x slices_S128_S64_64) (broadcastInDim S64 ![] bcast_S_S64 (fun _ => g (ix1 31) : FVec Ideal S_ .f32))) (ix1 n) = 1#1) :
    g (ix1 0) ≤ x (ix1 ⟨64 + n.val, by omega⟩) ∧ x (ix1 ⟨64 + n.val, by omega⟩) ≤ g (ix1 31) := by
  obtain ⟨h1, h2⟩ := both _ _ h
  rw [cmpf_apply, back_read] at h1 h2
  change BitVec.ofBool (decide (g (ix1 0) ≤ x (ix1 ⟨64 + n.val, by omega⟩))) = 1#1 at h1
  change BitVec.ofBool (decide (x (ix1 ⟨64 + n.val, by omega⟩) ≤ g (ix1 31))) = 1#1 at h2
  rw [bit_iff, decide_eq_true_iff] at h1 h2
  exact ⟨h1, h2⟩

/-- The fifth mask: the other 64 lower bounds lie within the grid. -/
theorem lower_mask (h : (fn P g L U).2.2.2.2.1 = fun _ => 1#1) (n : Fin 64) :
    g (ix1 0) ≤ L (ix1 ⟨64 + n.val, by omega⟩) ∧ L (ix1 ⟨64 + n.val, by omega⟩) ≤ g (ix1 31) := by
  have := congrFun h (ix1 n)
  unfold fn fn_part1 at this
  dsimp only at this
  rw [first_read, last_read] at this
  exact within_read g L n this

/-- The sixth mask: the other 64 upper bounds lie within the grid. -/
theorem upper_mask (h : (fn P g L U).2.2.2.2.2 = fun _ => 1#1) (n : Fin 64) :
    g (ix1 0) ≤ U (ix1 ⟨64 + n.val, by omega⟩) ∧ U (ix1 ⟨64 + n.val, by omega⟩) ≤ g (ix1 31) := by
  have := congrFun h (ix1 n)
  unfold fn fn_part1 at this
  dsimp only at this
  rw [first_read, last_read] at this
  exact within_read g U n this

/-- A finite extended real is a real. -/
theorem real_of_finite (x : EReal) (h : max x (-x) < ⊤) : ∃ r : ℝ, x = (r : EReal) := by
  induction x using EReal.rec with
  | bot => simp at h
  | coe r => exact ⟨r, rfl⟩
  | top => simp at h

/-- THE PRECONDITION: all six masks together are the facts the equation uses. -/
theorem gridFacts (h1 : (fn P g L U).1 = fun _ => 1#1) (h2 : (fn P g L U).2.1 = fun _ => 1#1)
    (h3 : (fn P g L U).2.2.1 = fun _ => 1#1) (h4 : (fn P g L U).2.2.2.1 = fun _ => 1#1)
    (h5 : (fn P g L U).2.2.2.2.1 = fun _ => 1#1) (h6 : (fn P g L U).2.2.2.2.2 = fun _ => 1#1) :
    GridFacts (fun i => g (ix1 i)) (fun k => L (ix1 k)) (fun k => U (ix1 k)) where
  uniform := by
    obtain ⟨a, ha⟩ := real_of_finite _ (finite_mask P g L U h1 0)
    obtain ⟨b, hb⟩ := real_of_finite _ (finite_mask P g L U h1 31)
    have hab := order_mask P g L U h2
    have hu := uniform_mask P g L U h3
    rw [ha, hb] at hab
    have hab' : a < b := by exact_mod_cast hab
    refine ⟨a, (b - a) / 31, by apply div_pos <;> linarith, fun i => ?_⟩
    show g (ix1 i) = _
    rw [hu i, ha, hb]
    unfold Ideal.div
    rw [if_neg (by norm_num), ← EReal.coe_inv, ← EReal.coe_sub, ← EReal.coe_mul, ← EReal.coe_mul, ← EReal.coe_add]
    rfl
  shares := fun n hn => share_mask P g L U h4 ⟨n.val, hn⟩
  coords := fun n hn => by
    have e : (⟨64 + (n.val - 64), by omega⟩ : Fin 128) = n := Fin.ext (by simp; omega)
    have hl := lower_mask P g L U h5 ⟨n.val - 64, by omega⟩
    have hu := upper_mask P g L U h6 ⟨n.val - 64, by omega⟩
    simp only [e] at hl hu
    exact ⟨hl, hu⟩

end

end Cert.Proof.PreRead

end
-- ==== Proof.Pieces.lean ====
/- The scalar pieces of the two formulas, each brought to one real number: clipping, the exponential variables, the
shares, the interpolation weights. -/
module

public import proofs.«01_k».proof.Proof.RefForms

@[expose] public section

noncomputable section

open scoped BigOperators

namespace Cert.Proof.Pieces

open Idealize.ShloMosaic Cert.Proof.Forms

/-- The largest clipped value, the f32 just below one that the programs use. -/
def edge : ℝ := 16777199 / 16777216

/-- The word of one half. -/
theorem half_word : Ideal.ofBits .f32 0x3F000000#32 = ((1 / 2 : ℝ) : EReal) := by
  simp [Ideal.ofBits, Ideal.ieee, -EReal.coe_mul]
  norm_num

/-- The word of the largest clipped value. -/
theorem hi_word : Ideal.ofBits .f32 0x3F7FFFEF#32 = ((edge : ℝ) : EReal) := by
  simp [Ideal.ofBits, Ideal.ieee, edge, -EReal.coe_mul]
  norm_num

/-- The word of the smallest clipped value. -/
theorem lo_word : Ideal.ofBits .f32 0xBF7FFFEF#32 = ((-edge : ℝ) : EReal) := by
  simp [Ideal.ofBits, Ideal.ieee, edge, -EReal.coe_mul]
  norm_num

/-- The word of 31, the number of steps of the grid. -/
theorem span_word : Ideal.ofBits .f32 0x41F80000#32 = ((31 : ℝ) : EReal) := by
  simp [Ideal.ofBits, Ideal.ieee, -EReal.coe_mul]
  norm_num

/-- Division of reals, where the divisor is not zero. -/
theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The greater of two reals. -/
theorem max_real (x y : ℝ) : max (x : EReal) (y : EReal) = ((max x y : ℝ) : EReal) := (EReal.coe_strictMono.monotone.map_max (a := x) (b := y)).symm

/-- What lies between two reals is a real. -/
theorem real_between (x : EReal) (a b : ℝ) (h1 : (a : EReal) ≤ x) (h2 : x ≤ (b : EReal)) :
    ∃ r : ℝ, x = (r : EReal) ∧ a ≤ r ∧ r ≤ b := by
  induction x using EReal.rec with
  | bot => exact absurd (le_bot_iff.1 h1) (EReal.coe_ne_bot a)
  | coe r => exact ⟨r, rfl, by exact_mod_cast h1, by exact_mod_cast h2⟩
  | top => exact absurd (top_le_iff.1 h2) (EReal.coe_ne_top b)

/-- A value cut to the programs' range is a real strictly within one of zero. -/
theorem cut_real (t : EReal) : ∃ w : ℝ, min (max t ((-edge : ℝ) : EReal)) ((edge : ℝ) : EReal) = (w : EReal) ∧ -1 < w ∧ w < 1 := by
  have he : (-edge : ℝ) ≤ edge := by unfold edge; norm_num
  obtain ⟨w, hw, h1, h2⟩ := real_between (min (max t ((-edge : ℝ) : EReal)) ((edge : ℝ) : EReal)) (-edge) edge
    (le_min (le_max_right _ _) (by exact_mod_cast he)) (min_le_right _ _)
  have : edge < 1 := by unfold edge; norm_num
  exact ⟨w, hw, by linarith, by linarith⟩

/-- CLIPPING: for real bounds the two clipped parameters are one real, between the bounds, and strictly between them
when the lower one is below the upper one. The parameter itself may be any extended real. -/
theorem clip_real (p : EReal) (l u : ℝ) :
    ∃ v : ℝ, kClip p l u = (v : EReal) ∧ rClip p l u = (v : EReal) ∧ min l u ≤ v ∧ v ≤ max l u ∧ (l < u → l < v ∧ v < u) := by
  have hc : centre l u = ((1 / 2 * (u + l) : ℝ) : EReal) := by
    unfold centre; rw [half_word, ← EReal.coe_add, ← EReal.coe_mul]
  have hr : radius l u = ((1 / 2 * (u - l) : ℝ) : EReal) := by
    unfold radius; rw [half_word, ← EReal.coe_sub, ← EReal.coe_mul]
  unfold kClip rClip
  rw [hc, hr, hi_word, lo_word, Ideal.ofBits_one_f32]
  rcases eq_or_ne l u with rfl | hne'
  · refine ⟨l, ?_, ?_, min_le_left _ _, le_max_left _ _, fun h => absurd h (lt_irrefl _)⟩
    all_goals
      rw [show (1 / 2 * (l - l) : ℝ) = 0 by ring, EReal.coe_zero, zero_mul, zero_add]
      exact congrArg _ (by ring)
  · have hne : ((1 / 2 * (u - l) : ℝ) : EReal) ≠ 0 := by
      have : (1 / 2 * (u - l) : ℝ) ≠ 0 := fun h0 => hne' (by linarith)
      exact_mod_cast this
    rw [Ideal.mul_one_div hne]
    obtain ⟨w, hw, h1, h2⟩ := cut_real (Ideal.div (p - ((1 / 2 * (u + l) : ℝ) : EReal)) ((1 / 2 * (u - l) : ℝ) : EReal))
    rw [min_comm ((edge : ℝ) : EReal), max_comm ((-edge : ℝ) : EReal), hw, ← EReal.coe_mul, ← EReal.coe_add]
    have inner : ∀ x y : ℝ, x < y → ∀ w : ℝ, -1 < w → w < 1 →
        x < 1 / 2 * (y - x) * w + 1 / 2 * (y + x) ∧ 1 / 2 * (y - x) * w + 1 / 2 * (y + x) < y :=
      fun x y hxy w h1 h2 => ⟨by nlinarith, by nlinarith⟩
    refine ⟨_, rfl, rfl, ?_, ?_, fun hlt => inner l u hlt w h1 h2⟩
    all_goals
      rcases lt_or_gt_of_ne hne' with hlt | hgt
      · obtain ⟨b1, b2⟩ := inner l u hlt w h1 h2
        simp only [min_eq_left hlt.le, max_eq_right hlt.le]
        linarith
      · obtain ⟨b1, b2⟩ := inner u l hgt (-w) (by linarith) (by linarith)
        simp only [min_eq_right hgt.le, max_eq_left hgt.le]
        linarith

/-- THE EXPONENTIAL VARIABLES: at a real strictly between 0 and 1 both are one positive real. -/
theorem exp_real (v : ℝ) (h0 : 0 < v) (h1 : v < 1) :
    ∃ x : ℝ, kExp v = (x : EReal) ∧ rExp v = (x : EReal) ∧ 0 < x := by
  have hl : Ideal.log (Ideal.ofBits .f32 0x3F800000#32 - (v : EReal)) = ((Real.log (1 - v) : ℝ) : EReal) := by
    rw [Ideal.ofBits_one_f32, ← EReal.coe_one, ← EReal.coe_sub]
    show (if 1 - v ≤ 0 then ⊥ else ((Real.log (1 - v) : ℝ) : EReal)) = _
    rw [if_neg (by linarith)]
  refine ⟨-Real.log (1 - v), ?_, ?_, ?_⟩
  · unfold kExp
    rw [hl, Ideal.ofBits_zero_f32, zero_sub, EReal.coe_neg]
  · unfold rExp
    rw [hl, EReal.coe_neg]
  · have := Real.log_neg (by linarith : 0 < 1 - v) (by linarith)
    linarith

/-- A sum of reals. -/
theorem sum_real {ι : Type} (S : Finset ι) (x : ι → ℝ) : ∑ k ∈ S, ((x k : ℝ) : EReal) = ((∑ k ∈ S, x k : ℝ) : EReal) := by
  classical
  induction S using Finset.induction_on with
  | empty => simp
  | insert a S ha ih => rw [Finset.sum_insert ha, Finset.sum_insert ha, ih, EReal.coe_add]

/-- THE SHARES: of positive reals the two shares are one real, not negative. -/
theorem share_real (x : Fin 64 → ℝ) (hx : ∀ k, 0 < x k) (n : Fin 64) :
    ∃ s : ℝ, kShare (fun k => ((x k : ℝ) : EReal)) n = (s : EReal) ∧ rShare (fun k => ((x k : ℝ) : EReal)) n = (s : EReal) ∧ 0 ≤ s := by
  have hpos : 0 < ∑ k, x k := Finset.sum_pos (fun k _ => hx k) ⟨0, Finset.mem_univ _⟩
  refine ⟨x n / ∑ k, x k, ?_, ?_, div_nonneg (hx n).le hpos.le⟩
  · unfold kShare
    simp only [Ideal.ofBits_one_f32, Ideal.ofBits_zero_f32, mul_one, zero_add]
    rw [sum_real, Ideal.mul_one_div (by exact_mod_cast hpos.ne'), div_real _ _ hpos.ne']
  · unfold rShare
    rw [Ideal.ofBits_zero_f32, zero_add, sum_real, div_real _ _ hpos.ne']

/-- A one-hot entry is a real. -/
theorem hot_real (a b : ℕ) : hot a b = ((if a = b then 1 else 0 : ℝ) : EReal) := by
  unfold hot
  split_ifs <;> simp

/-- Counting the positions below a bound of at most 31. -/
theorem card_below : ∀ N : Fin 32, (Finset.univ.filter fun i : Fin 32 => i.val < N.val).card = N.val := by decide

/-- THE INTERVAL: on the uniform grid from `a` with step `h`, at the point `u` steps from the start, the reference
uses an interval that holds the point. -/
theorem interval (g : Fin 32 → EReal) (a h u : ℝ) (hh : 0 < h) (hg : ∀ i : Fin 32, g i = ((a + i.val * h : ℝ) : EReal))
    (h0 : 0 ≤ u) (h1 : u ≤ 31) :
    ((rIdx g ((a + u * h : ℝ) : EReal) : ℕ) : ℝ) - 1 ≤ u ∧ u ≤ ((rIdx g ((a + u * h : ℝ) : EReal) : ℕ) : ℝ) := by
  have hN : ⌈u⌉₊ ≤ 31 := Nat.ceil_le.2 (by exact_mod_cast h1)
  have hcount : rCount g ((a + u * h : ℝ) : EReal) = ⌈u⌉₊ := by
    unfold rCount
    refine Eq.trans (congrArg Finset.card (Finset.filter_congr fun i _ => ?_)) (card_below ⟨⌈u⌉₊, by omega⟩)
    show g i < _ ↔ i.val < ⌈u⌉₊
    rw [hg i, EReal.coe_lt_coe_iff, Nat.lt_ceil]
    constructor
    · intro hl
      by_contra hc
      have := mul_le_mul_of_nonneg_right (not_lt.1 hc) hh.le
      linarith
    · intro hl
      have := mul_lt_mul_of_pos_right hl hh
      linarith
  have hle := Nat.le_ceil u
  have hlt := Nat.ceil_lt_add_one h0
  unfold rIdx
  rw [hcount, if_neg (show ⌈u⌉₊ ≠ 32 by omega)]
  split_ifs with hz
  · rw [hz] at hle
    push_cast at hle ⊢
    constructor <;> linarith
  · constructor <;> linarith

/-- THE WEIGHTS: on the uniform grid the reference's interpolation weight is the tent around the grid position. -/
theorem weight_real (g : Fin 32 → EReal) (a h u : ℝ) (hh : 0 < h) (hg : ∀ i : Fin 32, g i = ((a + i.val * h : ℝ) : EReal))
    (h0 : 0 ≤ u) (h1 : u ≤ 31) (n : ℕ) :
    rWeight g ((a + u * h : ℝ) : EReal) n = ((max (1 - |u - n|) 0 : ℝ) : EReal) := by
  obtain ⟨hl, hr⟩ := interval g a h u hh hg h0 h1
  have hpos := rIdx_pos g ((a + u * h : ℝ) : EReal)
  have hw : rW0 g ((a + u * h : ℝ) : EReal) = (((rIdx g ((a + u * h : ℝ) : EReal) : ℕ) - u : ℝ) : EReal) := by
    unfold rW0
    rw [hg, hg, ← EReal.coe_sub, ← EReal.coe_sub]
    dsimp only
    have e : (a + (rIdx g ((a + u * h : ℝ) : EReal) : ℝ) * h) - (a + ((rIdx g ((a + u * h : ℝ) : EReal) - 1 : ℕ) : ℝ) * h) = h := by
      rw [Nat.cast_sub hpos]; push_cast; ring
    rw [e, div_real _ _ hh.ne']
    refine congrArg _ ?_
    field_simp
    ring
  unfold rWeight
  rw [hw, hot_real, hot_real, Ideal.ofBits_one_f32, ← EReal.coe_one, ← EReal.coe_sub, ← EReal.coe_mul, ← EReal.coe_mul, ← EReal.coe_add]
  refine congrArg _ ?_
  generalize rIdx g ((a + u * h : ℝ) : EReal) = k at hl hr hpos
  have hk : ((k - 1 : ℕ) : ℝ) = k - 1 := by rw [Nat.cast_sub hpos]; push_cast; ring
  by_cases ha : k - 1 = n
  · have hne : k ≠ n := by omega
    rw [if_pos ha, if_neg hne, ← ha, hk, abs_of_nonneg (by linarith), max_eq_left (by linarith)]
    ring
  · by_cases hb : k = n
    · rw [if_neg ha, if_pos hb, ← hb, abs_of_nonpos (by linarith), max_eq_left (by linarith)]
      ring
    · rw [if_neg ha, if_neg hb, max_eq_right]
      · ring
      · rcases lt_or_gt_of_ne hb with hlt | hgt
        · have : ((k + 1 : ℕ) : ℝ) ≤ n := by exact_mod_cast hlt
          push_cast at this
          rw [abs_of_nonpos (by linarith)]
          linarith
        · have : ((n + 2 : ℕ) : ℝ) ≤ k := by exact_mod_cast (by omega : n + 2 ≤ k)
          push_cast at this
          rw [abs_of_nonneg (by linarith)]
          linarith

/-- THE TENT: a kernel slab's element, of reals with a share that is not negative. -/
theorem tent_real (s q b w o d : ℝ) (hs : 0 ≤ s) (hd : q - (b + (w + o)) = d) :
    kTent (s : EReal) (q : EReal) (b : EReal) (w : EReal) (o : EReal) = ((s * max (1 - |d|) 0 : ℝ) : EReal) := by
  unfold kTent
  rw [Ideal.ofBits_zero_f32, ← EReal.coe_add, ← EReal.coe_add, ← EReal.coe_sub, hd, ← EReal.coe_neg, max_real,
    ← EReal.coe_mul, ← EReal.coe_sub, ← EReal.coe_zero, max_real]
  refine congrArg _ ?_
  rw [← abs_eq_max_neg, mul_max_of_nonneg _ _ hs]
  congr 1 <;> ring

end Cert.Proof.Pieces

end
-- ==== Proof.Equation.lean ====
/- The equation: under the precondition's facts the kernel's formula and the reference's agree at every element. -/
module

public import proofs.«01_k».proof.Proof.Pieces

@[expose] public section

noncomputable section

open scoped BigOperators

namespace Cert.Proof.Equation

open Idealize.ShloMosaic Cert.Proof.Forms Cert.Proof.Pieces

variable {g : Fin 32 → EReal} {L U : Fin 128 → EReal} (P : Fin 128 → EReal)

/-- The exponential variables of the first 64 columns: one positive real on both sides. -/
theorem variable_real (F : GridFacts g L U) (k : Fin 128) (hk : k.val < 64) :
    ∃ x : ℝ, kExp (kClip (P k) (L k) (U k)) = (x : EReal) ∧ rExp (rClip (P k) (L k) (U k)) = (x : EReal) ∧ 0 < x := by
  obtain ⟨h0, hlu, h1⟩ := F.shares k hk
  obtain ⟨l, hl, hl0, -⟩ := real_between (L k) 0 1 (by exact_mod_cast h0) (by exact_mod_cast hlu.le.trans h1)
  obtain ⟨u, hu, -, hu1⟩ := real_between (U k) 0 1 (by exact_mod_cast h0.trans hlu.le) (by exact_mod_cast h1)
  rw [hl, hu] at hlu ⊢
  have hlu' : l < u := by exact_mod_cast hlu
  obtain ⟨v, hv, hv', -, -, hs⟩ := clip_real (P k) l u
  obtain ⟨s1, s2⟩ := hs hlu'
  rw [hv, hv']
  exact exp_real v (by linarith) (by linarith)

/-- The coordinates of the other 64 columns: one real within the grid on both sides. -/
theorem coord_real (F : GridFacts g L U) (a h : ℝ) (hg : ∀ i : Fin 32, g i = ((a + i.val * h : ℝ) : EReal))
    (k : Fin 128) (hk : 64 ≤ k.val) :
    ∃ v : ℝ, kClip (P k) (L k) (U k) = (v : EReal) ∧ rClip (P k) (L k) (U k) = (v : EReal) ∧ a ≤ v ∧ v ≤ a + 31 * h := by
  obtain ⟨⟨l0, l1⟩, u0, u1⟩ := F.coords k hk
  have e0 : g 0 = (a : EReal) := by rw [hg 0]; exact congrArg _ (by simp)
  have e1 : g 31 = ((a + 31 * h : ℝ) : EReal) := by rw [hg 31]; exact congrArg _ (by norm_num)
  rw [e0] at l0 u0
  rw [e1] at l1 u1
  obtain ⟨l, hl, hl0, hl1⟩ := real_between (L k) a (a + 31 * h) l0 l1
  obtain ⟨u, hu, hu0, hu1⟩ := real_between (U k) a (a + 31 * h) u0 u1
  rw [hl, hu]
  obtain ⟨v, hv, hv', b1, b2, -⟩ := clip_real (P k) l u
  exact ⟨v, hv, hv', (le_min hl0 hu0).trans b1, b2.trans (max_le hl1 hu1)⟩

/-- THE EQUATION: every element of the kernel's result is the reference's. -/
theorem kOut_eq_rOut (F : GridFacts g L U) (c : Fin 2048) : kOut P (g 0) (g 31) L U c = rOut P g L U c := by
  obtain ⟨a, h, hh, hg⟩ := F.uniform
  choose x hx hx' hpos using fun k : Fin 64 => variable_real P F ⟨k.val, by omega⟩ k.isLt
  obtain ⟨s, hs, hs', hs0⟩ := share_real x hpos ⟨c.val % 64, Nat.mod_lt _ (by norm_num)⟩
  obtain ⟨v, hv, hv', hv0, hv1⟩ := coord_real P F a h hg ⟨64 + c.val % 64, by omega⟩ (by simp)
  have e0 : g 0 = (a : EReal) := by rw [hg 0]; exact congrArg _ (by simp)
  have e1 : g 31 = ((a + 31 * h : ℝ) : EReal) := by rw [hg 31]; exact congrArg _ (by norm_num)
  have hinv : kInv (g 0) (g 31) = ((1 / h : ℝ) : EReal) := by
    unfold kInv
    rw [e0, e1, span_word, ← EReal.coe_sub, div_real _ _ (by intro h0; linarith)]
    refine congrArg _ ?_
    rw [show a + 31 * h - a = 31 * h by ring]
    field_simp
  have hm : ((c.val / 64 : ℕ) : ℝ) = ((c.val % 128 / 64 : ℕ) : ℝ) + ((2 * (c.val / 128) : ℕ) : ℝ) := by
    have : c.val / 64 = c.val % 128 / 64 + 2 * (c.val / 128) := by omega
    exact_mod_cast this
  have hu0 : 0 ≤ (v - a) / h := div_nonneg (by linarith) hh.le
  have hu1 : (v - a) / h ≤ 31 := by rw [div_le_iff₀ hh]; linarith
  have hvu : v = a + (v - a) / h * h := by field_simp; ring
  unfold kOut rOut
  simp only [hx, hx']
  rw [hs, hs', hv, hv', hinv, e0, ← EReal.coe_mul, ← EReal.coe_mul,
    tent_real s _ _ _ _ ((v - a) / h - ((c.val / 64 : ℕ) : ℝ)) hs0 (by rw [hm]; ring)]
  rw [hvu, weight_real g a h _ hh hg hu0 hu1, ← EReal.coe_mul, ← hvu]

end Cert.Proof.Equation

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_linspace_grid
public import proofs.«01_k».proof.Proof.KernelArray
public import proofs.«01_k».proof.Proof.RefValue
public import proofs.«01_k».proof.Proof.PreRead
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, keeps its arguments and leaves every semaphore at zero. -/
theorem reference_quiescent : Cert.quiescent_ReferenceIdeal := fun m ρ _ =>
  (θ_run (Cert.ReferenceIdeal.defs (F := Ideal)) _ _).mono
    (fun r h => And.intro (fun c => (h c).2) (Idealize.ShloMosaic.sem_eq_zero_of_no_sems (by decide) r.2))
    (Cert.ReferenceIdeal.Value.run (F := Ideal) m ρ)

/-- THE VALUE CLAIM: where the grid is uniform and the bounds are in range, the two programs end with equal results. -/
theorem algebraic : Cert.algebraic_KernelIdeal_ReferenceIdeal_pre_linspace_grid := by
  intro m ρ m' ρ' hpre hagree
  refine ⟨fun c => KernelArray.kArr m c, ?_, ?_⟩
  · refine (θ_run _ _ _).mono (fun r h c => ?_) (Cert.KernelIdeal.Value.run_blocks (F := Ideal) m ρ)
    exact ⟨(h c).1.trans (KernelArray.final m c), (h c).2⟩
  · refine (θ_run _ _ _).mono (fun r h c => ?_) (Cert.ReferenceIdeal.Value.run (F := Ideal) m' ρ')
    refine ⟨(h c).1.trans ?_, (h c).2⟩
    obtain ⟨a0, a1, a2, a3⟩ := hagree c
    obtain ⟨p1, p2, p3, p4, p5, p6⟩ := hpre c
    have F := PreRead.gridFacts _ _ _ _ p1 p2 p3 p4 p5 p6
    refine funext fun (i : Cert.ReferenceIdeal.S16384x2048.Idx) => ?_
    refine (congrArg (RefValue.result (StableHlo.launchContents m' c)) (ValueIdx.eq_ix2 i)).trans ?_
    refine (RefValue.result_apply (StableHlo.launchContents m' c) (i 0) (i 1)).trans ?_
    have e0 : RefValue.par (StableHlo.launchContents m' c) (i 0)
        = fun k => m ((c.tc : Thread Cert.KernelIdeal.nD Cert.KernelIdeal.τ).loc Cert.KernelIdeal.main_arg0) (ValueIdx.ix2 (i 0) k) :=
      funext fun k => congrFun a0 (ValueIdx.ix2 (i 0) k)
    have e1 : RefValue.grid (StableHlo.launchContents m' c)
        = fun k => m ((c.tc : Thread Cert.KernelIdeal.nD Cert.KernelIdeal.τ).loc Cert.KernelIdeal.main_arg1) (ValueIdx.ix1 k) :=
      funext fun k => congrFun a1 (ValueIdx.ix1 k)
    have e2 : RefValue.low (StableHlo.launchContents m' c)
        = fun k => m ((c.tc : Thread Cert.KernelIdeal.nD Cert.KernelIdeal.τ).loc Cert.KernelIdeal.main_arg2) (ValueIdx.ix1 k) :=
      funext fun k => congrFun a2 (ValueIdx.ix1 k)
    have e3 : RefValue.upp (StableHlo.launchContents m' c)
        = fun k => m ((c.tc : Thread Cert.KernelIdeal.nD Cert.KernelIdeal.τ).loc Cert.KernelIdeal.main_arg3) (ValueIdx.ix1 k) :=
      funext fun k => congrFun a3 (ValueIdx.ix1 k)
    rw [e0, e1, e2, e3]
    exact (Equation.kOut_eq_rOut _ F (i 1)).symm

/-- Every claim of the certificate. -/
theorem claim : Cert.Claim :=
  ⟨Cert.Kernel.Gen.facts, Cert.KernelIdeal.Gen.facts, Cert.ReferenceIdeal.Gen.facts, Cert.Pre_linspace_grid.Gen.facts,
    fun m ρ _ => Cert.Kernel.Gen.frame m ρ,
    fun m ρ _ => Cert.KernelIdeal.Gen.frame m ρ,
    fun m ρ _ => Cert.KernelIdeal.Gen.frame m ρ,
    reference_quiescent,
    fun m ρ _ => reference_quiescent m ρ trivial,
    trivial,
    algebraic⟩

end Cert.Proof

end
